-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_vocab_no_bias [hPre_in_vocab_no_bias : Cert.Pre_in_vocab_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab_no_bias [hPre_in_vocab_no_bias : Cert.Pre_in_vocab_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_vocab_no_bias [hKernelIdeal : Cert.KernelIdeal.Facts] [hPre_in_vocab_no_bias : Cert.Pre_in_vocab_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab_no_bias m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab_no_bias [hReferenceIdeal : Cert.ReferenceIdeal.Facts] [hPre_in_vocab_no_bias : Cert.Pre_in_vocab_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_vocab_no_bias [hKernelIdeal : Cert.KernelIdeal.Facts] [hReferenceIdeal : Cert.ReferenceIdeal.Facts] [hPre_in_vocab_no_bias : Cert.Pre_in_vocab_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_in_vocab_no_bias : Cert.Pre_in_vocab_no_bias.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_in_vocab_no_bias (hKernelIdeal := hKernelIdeal) (hPre_in_vocab_no_bias := hPre_in_vocab_no_bias)
    ∧ quiescent_ReferenceIdeal (hReferenceIdeal := hReferenceIdeal)
    ∧ quiescent_ReferenceIdeal_pre_in_vocab_no_bias (hReferenceIdeal := hReferenceIdeal) (hPre_in_vocab_no_bias := hPre_in_vocab_no_bias)
    ∧ preserves_Kernel_KernelIdeal
    ∧ algebraic_KernelIdeal_ReferenceIdeal_pre_in_vocab_no_bias (hKernelIdeal := hKernelIdeal) (hReferenceIdeal := hReferenceIdeal) (hPre_in_vocab_no_bias := hPre_in_vocab_no_bias)
-- ==== Pre_in_vocab.lean ====
abbrev S1x2048 : Shape := ⟨2, ![1, 2048]⟩
abbrev S100000x128 : Shape := ⟨2, ![100000, 128]⟩
abbrev S2048x128 : Shape := ⟨2, ![2048, 128]⟩
abbrev S128x100000 : Shape := ⟨2, ![128, 100000]⟩
abbrev S100000 : Shape := ⟨1, ![100000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : IVec S1x2048 32) (main_arg1 : IVec S1x2048 32) (main_arg2 : FVec F S100000x128 .f32) (main_arg3 : FVec F S2048x128 .f32) (main_arg4 : FVec F S128x100000 .f32) (main_arg5 : FVec F S100000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 100000#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  let main_c_1 : IVec S_ 32 := constantI S_ 32 0#32
  let main_v5 : IVec S1x2048 32 := broadcastInDim S1x2048 ![] bcast_S_S1x2048 main_c_1
  let main_v6 : IVec S1x2048 1 := cmpi .sge main_arg1 main_v5
  let main_v7 : IVec S1x2048 1 := andi main_v4 main_v6
  let main_c_2 : IVec S_ 32 := constantI S_ 32 100000#32
  let main_v8 : IVec S1x2048 32 := broadcastInDim S1x2048 ![] bcast_S_S1x2048 main_c_2
  let main_v9 : IVec S1x2048 1 := cmpi .slt main_arg1 main_v8
  let main_v10 : IVec S1x2048 1 := andi main_v7 main_v9
  let main_c_3 : IVec S_ 1 := constantI S_ 1 1#1
  let main_v11 : IVec S_ 1 := (fun x v => Host.reduce IntOp.andi x v reducesTo_S1x2048_S_d0_1 h_S_) main_v10 main_c_3
  main_v11
-- ==== Pre_in_vocab_no_bias.lean ====
abbrev S1x2048 : Shape := ⟨2, ![1, 2048]⟩
abbrev S100000x128 : Shape := ⟨2, ![100000, 128]⟩
abbrev S2048x128 : Shape := ⟨2, ![2048, 128]⟩
abbrev S128x100000 : Shape := ⟨2, ![128, 100000]⟩
abbrev S100000 : Shape := ⟨1, ![100000]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S1x2048 32) (main_arg1 : IVec S1x2048 32) (main_arg2 : FVec F S100000x128 .f32) (main_arg3 : FVec F S2048x128 .f32) (main_arg4 : FVec F S128x100000 .f32) (main_arg5 : FVec F S100000 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg0 main_v0
  let main_c_0 : IVec S_ 32 := constantI S_ 32 100000#32
  let main_v2 : IVec S1x2048 32 := broadcastInDim S1x2048 ![] bcast_S_S1x2048 main_c_0
  let main_v3 : IVec S1x2048 1 := cmpi .slt main_arg0 main_v2
  let main_v4 : IVec S1x2048 1 := andi main_v1 main_v3
  let main_c_1 : IVec S_ 32 := constantI S_ 32 0#32
  let main_v5 : IVec S1x2048 32 := broadcastInDim S1x2048 ![] bcast_S_S1x2048 main_c_1
  let main_v6 : IVec S1x2048 1 := cmpi .sge main_arg1 main_v5
  let main_v7 : IVec S1x2048 1 := andi main_v4 main_v6
  let main_c_2 : IVec S_ 32 := constantI S_ 32 100000#32
  let main_v8 : IVec S1x2048 32 := broadcastInDim S1x2048 ![] bcast_S_S1x2048 main_c_2
  let main_v9 : IVec S1x2048 1 := cmpi .slt main_arg1 main_v8
  let main_v10 : IVec S1x2048 1 := andi main_v7 main_v9
  let main_c_3 : IVec S_ 1 := constantI S_ 1 1#1
  let main_v11 : IVec S_ 1 := (fun x v => Host.reduce IntOp.andi x v reducesTo_S1x2048_S_d0_1 h_S_) main_v10 main_c_3
  let main_cst : FVec F S_ .f32 := constant S_ .f32 0x00000000#32
  let main_v12 : FVec F S100000 .f32 := broadcastInDim S100000 ![] bcast_S_S100000 main_cst
  let main_v13 : IVec S100000 1 := cmpf .oeq main_arg5 main_v12
  let main_c_4 : IVec S_ 1 := constantI S_ 1 1#1
  let main_v14 : IVec S_ 1 := (fun x v => Host.reduce IntOp.andi x v reducesTo_S100000_S_d0 h_S_) main_v13 main_c_4
  let main_v15 : IVec S_ 1 := andi main_v11 main_v14
  main_v15
-- ==== Kernel.lean ====
abbrev S1x2048 : Shape := ⟨2, ![1, 2048]⟩
abbrev S100000x128 : Shape := ⟨2, ![100000, 128]⟩
abbrev S2048x128 : Shape := ⟨2, ![2048, 128]⟩
abbrev S128x100000 : Shape := ⟨2, ![128, 100000]⟩
abbrev S100000 : Shape := ⟨1, ![100000]⟩
abbrev S2048 : Shape := ⟨1, ![2048]⟩
abbrev S64 : Shape := ⟨1, ![64]⟩
abbrev S64x128 : Shape := ⟨2, ![64, 128]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x100000x2048 : Shape := ⟨3, ![1, 100000, 2048]⟩
abbrev S2000x128 : Shape := ⟨2, ![2000, 128]⟩
abbrev S1x2000x2048 : Shape := ⟨3, ![1, 2000, 2048]⟩
abbrev S128x2048 : Shape := ⟨2, ![128, 2048]⟩
abbrev S8x2048 : Shape := ⟨2, ![8, 2048]⟩
abbrev S8x2000 : Shape := ⟨2, ![8, 2000]⟩
abbrev S2000x2048 : Shape := ⟨2, ![2000, 2048]⟩
abbrev S1x1x2048 : Shape := ⟨3, ![1, 1, 2048]⟩
abbrev S1x1x1 : Shape := ⟨3, ![1, 1, 1]⟩
abbrev S1x2048x100000 : Shape := ⟨3, ![1, 2048, 100000]⟩

abbrev nBuf : Table → Nat
  | .hbm => 38
  | .local .tc .vmem => 11
  | .local .tc .smem => 1
  | .local .scVector .vmem => 4
  | _ => 0

abbrev bufTy : (tb : Table) → Fin (nBuf tb) → BufTy
  | .hbm, ⟨0, _⟩ => ⟨S1x2048, .i32⟩
  | .hbm, ⟨1, _⟩ => ⟨S1x2048, .i32⟩
  | .hbm, ⟨2, _⟩ => ⟨S100000x128, .f32⟩
  | .hbm, ⟨3, _⟩ => ⟨S2048x128, .f32⟩
  | .hbm, ⟨4, _⟩ => ⟨S128x100000, .f32⟩
  | .hbm, ⟨5, _⟩ => ⟨S100000, .f32⟩
  | .hbm, ⟨6, _⟩ => ⟨S2048, .i32⟩
  | .hbm, ⟨7, _⟩ => ⟨S2048, .i32⟩
  | .hbm, ⟨8, _⟩ => ⟨S100000x128, .f32⟩
  | .hbm, ⟨9, _⟩ => ⟨S2048x128, .f32⟩
  | .hbm, ⟨10, _⟩ => ⟨S2048x128, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S1, .i32⟩
  | .hbm, ⟨20, _⟩ => ⟨S_, .i32⟩
  | .hbm, ⟨21, _⟩ => ⟨S2048x1, .i32⟩
  | .hbm, ⟨22, _⟩ => ⟨S2048x1, .i1⟩
  | .hbm, ⟨23, _⟩ => ⟨S1x1, .i32⟩
  | .hbm, ⟨24, _⟩ => ⟨S2048x1, .i32⟩
  | .hbm, ⟨25, _⟩ => ⟨S2048x1, .i1⟩
  | .hbm, ⟨26, _⟩ => ⟨S2048x1, .i1⟩
  | .hbm, ⟨27, _⟩ => ⟨S_, .i1⟩
  | .hbm, ⟨28, _⟩ => ⟨S2048, .i1⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S1x100000x2048, .f32⟩
  | .hbm, ⟨35, _⟩ => ⟨S1x1, .f32⟩
  | .hbm, ⟨36, _⟩ => ⟨S1x2048x100000, .f32⟩
  | .hbm, ⟨37, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S2000x128, .f32⟩
  | .local .tc .vmem, ⟨3, _⟩ => ⟨S2000x128, .f32⟩
  | .local .tc .vmem, ⟨4, _⟩ => ⟨S2048x128, .f32⟩
  | .local .tc .vmem, ⟨5, _⟩ => ⟨S1x2048, .f32⟩
  | .local .tc .vmem, ⟨6, _⟩ => ⟨S1x2000x2048, .f32⟩
  | .local .tc .vmem, ⟨7, _⟩ => ⟨S1x2000x2048, .f32⟩
  | .local .tc .vmem, ⟨8, _⟩ => ⟨S128x2048, .f32⟩
  | .local .tc .vmem, ⟨9, _⟩ => ⟨S8x2048, .f32⟩
  | .local .tc .vmem, ⟨10, _⟩ => ⟨S8x2000, .f32⟩
  | .local .tc .smem, ⟨0, _⟩ => ⟨S1x1, .f32⟩
  | .local .scVector .vmem, ⟨0, _⟩ => ⟨S64, .i32⟩
  | .local .scVector .vmem, ⟨1, _⟩ => ⟨S64, .i32⟩
  | .local .scVector .vmem, ⟨2, _⟩ => ⟨S64x128, .f32⟩
  | .local .scVector .vmem, ⟨3, _⟩ => ⟨S64x128, .f32⟩
  | _, _ => ⟨S1x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v4 : Ref sig .tc := ⟨.hbm, 32, rfl⟩
abbrev main_v5 : Ref sig .tc := ⟨.hbm, 33, rfl⟩
abbrev main_v6_0 : Ref sig .tc := ⟨.hbm, 34, rfl⟩
abbrev main_v6_1 : Ref sig .tc := ⟨.hbm, 35, rfl⟩
abbrev main_v7 : Ref sig .tc := ⟨.hbm, 36, rfl⟩
abbrev main_v8 : Ref sig .tc := ⟨.hbm, 37, rfl⟩
abbrev main_arg2_scv : Ref sig .scVector := ⟨.hbm, 2, rfl⟩
abbrev main_v2_scv : Ref sig .scVector := ⟨.hbm, 8, rfl⟩
abbrev main_v0_scv : Ref sig .scVector := ⟨.hbm, 6, rfl⟩
abbrev main_v1_scv : Ref sig .scVector := ⟨.hbm, 7, rfl⟩
abbrev main_v3_0_scv : Ref sig .scVector := ⟨.hbm, 9, rfl⟩
abbrev main_v3_1_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_stg6_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_7_r2 : BitVec 32 := 0#32
  ![v2.toNat, 0]
abbrev grid1 : Pipeline.Grid := ⟨1, ![50], ![false]⟩

def k1_cond3 (i : grid1.Coords) : BitVec 1 :=
  let arg0 : BitVec 32 := BitVec.ofNat 32 (i 0).val
  let c49_i32_8 : BitVec 32 := 49#32
  let v14 : BitVec 1 := Scalar.cmpi .eq arg0 c49_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2000x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048 : Shape := ⟨2, ![1, 2048]⟩
abbrev S100000x128 : Shape := ⟨2, ![100000, 128]⟩
abbrev S2048x128 : Shape := ⟨2, ![2048, 128]⟩
abbrev S128x100000 : Shape := ⟨2, ![128, 100000]⟩
abbrev S100000 : Shape := ⟨1, ![100000]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x128 : Shape := ⟨3, ![1, 2048, 128]⟩
abbrev S2048 : Shape := ⟨1, ![2048]⟩
abbrev S2048x1 : Shape := ⟨2, ![2048, 1]⟩
abbrev S1x1 : Shape := ⟨2, ![1, 1]⟩
abbrev S1x2048x100000 : Shape := ⟨3, ![1, 2048, 100000]⟩
abbrev S1x1x100000 : Shape := ⟨3, ![1, 1, 100000]⟩
abbrev S2048x100000 : Shape := ⟨2, ![2048, 100000]⟩
abbrev S2048x1x1 : Shape := ⟨3, ![2048, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S1x2048, .i32⟩
  | .hbm, ⟨2, _⟩ => ⟨S100000x128, .f32⟩
  | .hbm, ⟨3, _⟩ => ⟨S2048x128, .f32⟩
  | .hbm, ⟨4, _⟩ => ⟨S128x100000, .f32⟩
  | .hbm, ⟨5, _⟩ => ⟨S100000, .f32⟩
  | .hbm, ⟨6, _⟩ => ⟨S_, .i32⟩
  | .hbm, ⟨7, _⟩ => ⟨S1x2048, .i32⟩
  | .hbm, ⟨8, _⟩ => ⟨S1x2048, .i1⟩
  | .hbm, ⟨9, _⟩ => ⟨S_, .i32⟩
  | .hbm, ⟨10, _⟩ => ⟨S1x2048, .i32⟩
  | .hbm, ⟨11, _⟩ => ⟨S1x2048, .i32⟩
  | .hbm, ⟨12, _⟩ => ⟨S1x2048, .i32⟩
  | .hbm, ⟨13, _⟩ => ⟨S1x2048x1, .i32⟩
  | .hbm, ⟨14, _⟩ => ⟨S1, .i32⟩
  | .hbm, ⟨15, _⟩ => ⟨S_, .i32⟩
  | .hbm, ⟨16, _⟩ => ⟨S1x2048x1, .i32⟩
  | .hbm, ⟨17, _⟩ => ⟨S1x2048x1, .i1⟩
  | .hbm, ⟨18, _⟩ => ⟨S1x1x1, .i32⟩
  | .hbm, ⟨19, _⟩ => ⟨S1x2048x1, .i32⟩
  | .hbm, ⟨20, _⟩ => ⟨S1x2048x1, .i1⟩
  | .hbm, ⟨21, _⟩ => ⟨S1x2048x1, .i1⟩
  | .hbm, ⟨22, _⟩ => ⟨S_, .i1⟩
  | .hbm, ⟨23, _⟩ => ⟨S1x2048, .i1⟩
  | .hbm, ⟨24, _⟩ => ⟨S1x2048x128, .f32⟩
  | .hbm, ⟨25, _⟩ => ⟨S1x2048x128, .i1⟩
  | .hbm, ⟨26, _⟩ => ⟨S_, .f32⟩
  | .hbm, ⟨27, _⟩ => ⟨S1x2048x128, .f32⟩
  | .hbm, ⟨28, _⟩ => ⟨S1x2048x128, .f32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S1, .i32⟩
  | .hbm, ⟨39, _⟩ => ⟨S_, .i32⟩
  | .hbm, ⟨40, _⟩ => ⟨S2048x1, .i32⟩
  | .hbm, ⟨41, _⟩ => ⟨S2048x1, .i1⟩
  | .hbm, ⟨42, _⟩ => ⟨S1x1, .i32⟩
  | .hbm, ⟨43, _⟩ => ⟨S2048x1, .i32⟩
  | .hbm, ⟨44, _⟩ => ⟨S2048x1, .i1⟩
  | .hbm, ⟨45, _⟩ => ⟨S2048x1, .i1⟩
  | .hbm, ⟨46, _⟩ => ⟨S_, .i1⟩
  | .hbm, ⟨47, _⟩ => ⟨S2048, .i1⟩
  | .hbm, ⟨48, _⟩ => ⟨S2048x128, .f32⟩
  | .hbm, ⟨49, _⟩ => ⟨S2048x128, .i1⟩
  | .hbm, ⟨50, _⟩ => ⟨S_, .f32⟩
  | .hbm, ⟨51, _⟩ => ⟨S2048x128, .f32⟩
  | .hbm, ⟨52, _⟩ => ⟨S2048x128, .f32⟩
  | .hbm, ⟨53, _⟩ => ⟨S1x2048x128, .f32⟩
  | .hbm, ⟨54, _⟩ => ⟨S1x2048x128, .f32⟩
  | .hbm, ⟨55, _⟩ => ⟨S1x2048x100000, .f32⟩
  | .hbm, ⟨56, _⟩ => ⟨S1x1x100000, .f32⟩
  | .hbm, ⟨57, _⟩ => ⟨S1x2048x100000, .f32⟩
  | .hbm, ⟨58, _⟩ => ⟨S1x2048x100000, .f32⟩
  | .hbm, ⟨59, _⟩ => ⟨S2048x100000, .f32⟩
  | .hbm, ⟨60, _⟩ => ⟨S2048, .i32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .i1⟩
  | .hbm, ⟨67, _⟩ => ⟨S_, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048x1, .f32⟩
  | .hbm, ⟨72, _⟩ => ⟨S2048x100000, .f32⟩
  | .hbm, ⟨73, _⟩ => ⟨S2048x100000, .f32⟩
  | .hbm, ⟨74, _⟩ => ⟨S2048x100000, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S2048, .f32⟩
  | .hbm, ⟨79, _⟩ => ⟨S2048x1, .i32⟩
  | .hbm, ⟨80, _⟩ => ⟨S_, .i32⟩
  | .hbm, ⟨81, _⟩ => ⟨S2048x1, .i32⟩
  | .hbm, ⟨82, _⟩ => ⟨S2048x1, .i1⟩
  | .hbm, ⟨83, _⟩ => ⟨S_, .i32⟩
  | .hbm, ⟨84, _⟩ => ⟨S2048x1, .i32⟩
  | .hbm, ⟨85, _⟩ => ⟨S2048x1, .i32⟩
  | .hbm, ⟨86, _⟩ => ⟨S2048x1, .i32⟩
  | .hbm, ⟨87, _⟩ => ⟨S2048x1x1, .i32⟩
  | .hbm, ⟨88, _⟩ => ⟨S1, .i32⟩
  | .hbm, ⟨89, _⟩ => ⟨S_, .i32⟩
  | .hbm, ⟨90, _⟩ => ⟨S2048x1x1, .i32⟩
  | .hbm, ⟨91, _⟩ => ⟨S2048x1x1, .i1⟩
  | .hbm, ⟨92, _⟩ => ⟨S1x1x1, .i32⟩
  | .hbm, ⟨93, _⟩ => ⟨S2048x1x1, .i32⟩
  | .hbm, ⟨94, _⟩ => ⟨S2048x1x1, .i1⟩
  | .hbm, ⟨95, _⟩ => ⟨S2048x1x1, .i1⟩
  | .hbm, ⟨96, _⟩ => ⟨S_, .i1⟩
  | .hbm, ⟨97, _⟩ => ⟨S2048x1, .i1⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S2048, .f32⟩
  | .hbm, ⟨103, _⟩ => ⟨S2048, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_call2_v0 : Ref sig .tc := ⟨.hbm, 68, rfl⟩
abbrev main_call2_v1 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_cst_2 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_cst : Ref sig .tc := ⟨.hbm, 99, rfl⟩
abbrev main_call3_v14 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_cst_3 : Ref sig .tc := ⟨.hbm, 104, rfl⟩
abbrev main_v27 : Ref sig .tc := ⟨.hbm, 105, rfl⟩
abbrev main_cst_4 : Ref sig .tc := ⟨.hbm, 106, rfl⟩
abbrev main_v28 : Ref sig .tc := ⟨.hbm, 107, rfl⟩

abbrev nD : Nat := 1
abbrev τ : Topo := Topo.v7x

variable {F : FTy → Type} [FloatOps F]
-- ==== Proof.Ranges.lean ====
/-
  What the two preconditions say of the arguments: every token and every target names a row of the table, and (the
  second) the bias is zero.
-/
module

public import proofs.«01_k».proof.Proof.Gen.Pre_in_vocab
public import proofs.«01_k».proof.Proof.Gen.Pre_in_vocab_no_bias
public import Idealize.ShloMosaic.Lib.ReduceAll
public import Idealize.ShloMosaic.Lib.WordCmp
public import Idealize.ShloMosaic.Lib.StableHlo.Predicate
public import Idealize.ShloMosaic.PureOps.Ideal
public import Idealize.ShloMosaic.PureOps.Ideal.Laws

@[expose] public section

namespace Cert.Ranges

open Idealize.ShloMosaic

theorem word_of_range (v : BitVec 32) (e : IntOp.andi (IntOp.cmpi .sge v 0#32) (IntOp.cmpi .slt v 100000#32) = 1#1) : v.toNat < 100000 := by
  rw [show (100000#32 : BitVec 32) = BitVec.ofNat 32 100000 from rfl, WordCmp.andi_sge_zero_slt_ofNat (by norm_num)] at e
  exact of_decide_eq_true ((StableHlo.Predicate.ofBool_eq_one_iff _).1 e)

/-- One element's four tests. -/
theorem words_of_tests (v w : BitVec 32)
    (e : IntOp.andi (IntOp.andi (IntOp.andi (IntOp.cmpi .sge v 0#32) (IntOp.cmpi .slt v 100000#32)) (IntOp.cmpi .sge w 0#32)) (IntOp.cmpi .slt w 100000#32) = 1#1) :
    v.toNat < 100000 ∧ w.toNat < 100000 := by
  obtain ⟨e1, e4⟩ := IntOp.andi_eq_one.1 e
  obtain ⟨e12, e3⟩ := IntOp.andi_eq_one.1 e1
  exact ⟨word_of_range v e12, word_of_range w (IntOp.andi_eq_one.2 ⟨e3, e4⟩)⟩

section Fns
open Cert.Pre_in_vocab

variable {F : FTy → Type} [FloatOps F]

/-- `in_vocab`: every word of both lists is below 100000. -/
theorem of_in_vocab (a0 a1 : IVec S1x2048 32) (a2 : FVec F S100000x128 .f32) (a3 : FVec F S2048x128 .f32) (a4 : FVec F S128x100000 .f32) (a5 : FVec F S100000 .f32)
    (h : Cert.Pre_in_vocab.fn a0 a1 a2 a3 a4 a5 = fun _ => 1#1) (i : S1x2048.Idx) : (a0 i).toNat < 100000 ∧ (a1 i).toNat < 100000 := by
  have e := congrFun h (Shape.Idx.first Pre_in_vocab.Gen.h_S_)
  haveI : Subsingleton S_.Idx := ⟨fun a b => funext fun k => absurd k.isLt (Nat.not_lt_zero _)⟩
  exact words_of_tests _ _ (Host.reduce_andi_all _ _ _ _ _ e i)

end Fns

section Fns
open Cert.Pre_in_vocab_no_bias

/-- `in_vocab_no_bias`: every word of both lists is below 100000, -/
theorem of_in_vocab_no_bias {F : FTy → Type} [FloatOps F] (a0 a1 : IVec S1x2048 32) (a2 : FVec F S100000x128 .f32) (a3 : FVec F S2048x128 .f32) (a4 : FVec F S128x100000 .f32) (a5 : FVec F S100000 .f32)
    (h : Cert.Pre_in_vocab_no_bias.fn a0 a1 a2 a3 a4 a5 = fun _ => 1#1) (i : S1x2048.Idx) : (a0 i).toNat < 100000 ∧ (a1 i).toNat < 100000 := by
  have e := congrFun h (Shape.Idx.first Pre_in_vocab_no_bias.Gen.h_S_)
  haveI : Subsingleton S_.Idx := ⟨fun a b => funext fun k => absurd k.isLt (Nat.not_lt_zero _)⟩
  obtain ⟨e, -⟩ := IntOp.andi_eq_one.1 e
  exact words_of_tests _ _ (Host.reduce_andi_all _ _ _ _ _ e i)

/-- and, over the extended reals, every bias is zero. -/
theorem bias_zero (a0 a1 : IVec S1x2048 32) (a2 : FVec Ideal S100000x128 .f32) (a3 : FVec Ideal S2048x128 .f32) (a4 : FVec Ideal S128x100000 .f32) (a5 : FVec Ideal S100000 .f32)
    (h : Cert.Pre_in_vocab_no_bias.fn a0 a1 a2 a3 a4 a5 = fun _ => 1#1) (i : S100000.Idx) : a5 i = (0 : EReal) := by
  have e := congrFun h (Shape.Idx.first Pre_in_vocab_no_bias.Gen.h_S_)
  haveI : Subsingleton S_.Idx := ⟨fun a b => funext fun k => absurd k.isLt (Nat.not_lt_zero _)⟩
  obtain ⟨-, e⟩ := IntOp.andi_eq_one.1 e
  have e' : Ideal.cmp .oeq (a5 i) (Ideal.ofBits .f32 0x00000000#32) = 1#1 := Host.reduce_andi_all _ _ _ _ _ e i
  rw [Ideal.ofBits_zero_f32] at e'
  exact of_decide_eq_true ((StableHlo.Predicate.ofBool_eq_one_iff _).1 e')

end Fns

end Cert.Ranges
-- ==== Proof.KernelIdeal.Tile.lean ====
/-
  One vector subcore's part of the lookup: what it holds before, what it holds after, and that its program takes the one
  to the other. Subcore `(c, s)` fetches its 64 words of each index list, gathers the 64 named rows of each table and
  writes them to its 64 rows of each result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's labels, definitions and variants -/

/-- The labels of the program without its SparseCore launch. -/
abbrev ΛP : Labels := Pipeline.Sig Λ₀ (Fin 1) fun p => (pcfgs (F := F) p).Adm
/-- The SparseCore launch. -/
abbrev K : SparseCore.Cfg τ sig (ΛP (F := F)) 1 := sc (F := F)
/-- The definitions of the program without its SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch has sixteen subcores on each core, -/
theorem nSub_zero : (K (F := F)).nSub 0 = 16 := rfl
/-- and two cores. -/
theorem nCore_zero : (K (F := F)).nCore 0 = 2 := rfl

/-- The launch's semaphores are apart and unscoped, and no core's buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's rounds, the windows' rounds, the transfers' counters -/

/-- The launch handshakes' rounds. -/
abbrev UH : Type := URounds (GSem nD τ sig) ℕ
/-- The window staging's rounds. -/
abbrev UP : Type := URounds (GSem nD τ sig) Unit
/-- All of the proof's ghost state. -/
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL

/-! ## The buffers -/

/-- The flattened tokens, the flattened targets, the token table, the transposed output table, and the two results. -/
abbrev iaLoc (d : Dev nD) : Loc nD τ sig := (SparseCore.T d).loc main_v0
abbrev ibLoc (d : Dev nD) : Loc nD τ sig := (SparseCore.T d).loc main_v1
abbrev taLoc (d : Dev nD) : Loc nD τ sig := (SparseCore.T d).loc main_arg2
abbrev tbLoc (d : Dev nD) : Loc nD τ sig := (SparseCore.T d).loc main_v2
abbrev oaLoc (d : Dev nD) : Loc nD τ sig := (SparseCore.T d).loc main_v3_0
abbrev obLoc (d : Dev nD) : Loc nD τ sig := (SparseCore.T d).loc main_v3_1

abbrev iaV : Memref sig .scVector .hbm S2048 .i32 := Memref.whole main_v0_scv
abbrev ibV : Memref sig .scVector .hbm S2048 .i32 := Memref.whole main_v1_scv
abbrev taV : Memref sig .scVector .hbm S100000x128 .f32 := Memref.whole main_arg2_scv
abbrev tbV : Memref sig .scVector .hbm S100000x128 .f32 := Memref.whole main_v2_scv
abbrev oaV : Memref sig .scVector .hbm S2048x128 .f32 := Memref.whole main_v3_0_scv
abbrev obV : Memref sig .scVector .hbm S2048x128 .f32 := Memref.whole main_v3_1_scv
abbrev laV : Memref sig .scVector .vmem S64 .i32 := Memref.whole cc0_scratch0
abbrev lbV : Memref sig .scVector .vmem S64 .i32 := Memref.whole cc0_scratch1
abbrev raV : Memref sig .scVector .vmem S64x128 .f32 := Memref.whole cc0_scratch2
abbrev rbV : Memref sig .scVector .vmem S64x128 .f32 := Memref.whole cc0_scratch3

/-! ## Rows named by an index list -/

/-- Entry `(r, c)` of a table. -/
def tabIx (r : Fin 100000) (c : Fin 128) : S100000x128.Idx := fun a => match a with | ⟨0, _⟩ => r | ⟨1, _⟩ => c
/-- Entry `k` of an index list. -/
def listIx (k : Fin 2048) : S2048.Idx := fun a => match a with | ⟨0, _⟩ => k

/-- The rows of `tab` that `idx` names, in the list's order (a word beyond the table counted from its start again). -/
def gRows (tab : S100000x128.Idx → Elt F .f32) (idx : S2048.Idx → Elt F .i32) : S2048x128.Idx → Elt F .f32 :=
  fun y => tab (tabIx ⟨(idx (listIx (y 0))).toNat % 100000, Nat.mod_lt _ (by norm_num)⟩ (y 1))

/-! ## One subcore's rows -/

theorem idiv : 32 ∣ S2048.size 0 := ⟨64, rfl⟩
theorem odiv : 32 ∣ S2048x128.size 0 := ⟨64, rfl⟩
/-- The `i`-th 64 words of an index list, and the `i`-th 64 rows of a result. -/
abbrev irow (i : Fin 32) : Rect S2048 := Rect.part (s := S2048) (a₀ := 0) idiv i
abbrev orow (i : Fin 32) : Rect S2048x128 := Rect.part (s := S2048x128) (a₀ := 0) odiv i
abbrev iaSet (i : Fin 32) : Finset S2048.Idx := (iaV.view.slice (irow i)).set
abbrev ibSet (i : Fin 32) : Finset S2048.Idx := (ibV.view.slice (irow i)).set
abbrev oaSet (i : Fin 32) : Finset S2048x128.Idx := (oaV.view.slice (orow i)).set
abbrev obSet (i : Fin 32) : Finset S2048x128.Idx := (obV.view.slice (orow i)).set

/-- Which 64 rows are subcore `s` of core `c`'s. -/
def wid (c : Fin 2) (s : Fin 16) : Fin 32 := ⟨2 * s.val + c.val, by omega⟩

/-- The part of the full share of a table that the `i`-th subcore reads at. -/
abbrev tq (i : Fin 32) : PosShare TreeShare := pieceOf fullShare 32 (by norm_num) i

variable (tA tB : S100000x128.Idx → Elt F .f32) (iA iB : S2048.Idx → Elt F .i32)

/-- What the `i`-th subcore is handed: its words of the index lists, its shares of the tables, its rows of the results
    at contents `f`, `g`. -/
def part (d : Dev nD) (i : Fin 32) (f g : S2048x128.Idx → Elt F .f32) : sProp 𝕄 :=
  iprop((iaLoc d ↦[iaSet i]{fullShare} iA) ∗ (ibLoc d ↦[ibSet i]{fullShare} iB)
    ∗ (taLoc d ↦{tq i} tA) ∗ (tbLoc d ↦{tq i} tB)
    ∗ (oaLoc d ↦[oaSet i]{fullShare} f) ∗ (obLoc d ↦[obSet i]{fullShare} g))

/-! ## The subcore as the program addresses it -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the subcore's rows. -/
abbrev wL (L : grid0.Coords) : Fin 32 := wid ⟨(L 0).val, (L 0).isLt⟩ ⟨(L 1).val, (L 1).isLt⟩

abbrev irowK (L : grid0.Coords) : Rect S2048 := Rect.unit (s := S2048) (k0_off1 L) S64.size (k0_off1_inb L)
abbrev orowK (L : grid0.Coords) : Rect S2048x128 := Rect.unit (s := S2048x128) (k0_off2 L) S64x128.size (k0_off2_inb L)
abbrev iaK (L : grid0.Coords) : Memref sig .scVector .hbm S64 .i32 := iaV.slice (irowK L) (fun _ => rfl)
abbrev ibK (L : grid0.Coords) : Memref sig .scVector .hbm S64 .i32 := ibV.slice (irowK L) (fun _ => rfl)
abbrev oaK (L : grid0.Coords) : Memref sig .scVector .hbm S64x128 .f32 := oaV.slice (orowK L) (fun _ => rfl)
abbrev obK (L : grid0.Coords) : Memref sig .scVector .hbm S64x128 .f32 := obV.slice (orowK L) (fun _ => rfl)
abbrev taK : Memref sig .scVector .hbm S100000x128 .f32 := taV.slice (Rect.unit (s := S100000x128) ![0, 0] S100000x128.size inb_S100000x128_S100000x128_0_0) (fun _ => rfl)
abbrev tbK : Memref sig .scVector .hbm S100000x128 .f32 := tbV.slice (Rect.unit (s := S100000x128) ![0, 0] S100000x128.size inb_S100000x128_S100000x128_0_0) (fun _ => rfl)

/-- The words the program's slice covers are the subcore's, -/
theorem irowK_eq : irowK L = irow (wL L) := by
  unfold irowK irow Rect.part Rect.block
  congr 1 <;> funext a
  · rw [k0_off1_eq]
    match a with
    | 0 => simp [Shape.partIx, Shape.partSize, wid]; omega
  · match a with
    | 0 => simp [Shape.partSize]
/-- and so are the rows. -/
theorem orowK_eq : orowK L = orow (wL L) := by
  unfold orowK orow Rect.part Rect.block
  congr 1 <;> funext a
  · rw [k0_off2_eq]
    match a with
    | 0 => simp [Shape.partIx, Shape.partSize, wid]; omega
    | 1 => simp [Shape.partIx, Shape.partSize]
  · match a with
    | 0 => simp [Shape.partSize]
    | 1 => simp [Shape.partSize]

theorem set_iaK : (iaK L).view.set = iaSet (wL L) := by
  show (iaV.view.slice (irowK L)).set = (iaV.view.slice (irow (wL L))).set
  exact irowK_eq L ▸ rfl
theorem set_ibK : (ibK L).view.set = ibSet (wL L) := by
  show (ibV.view.slice (irowK L)).set = (ibV.view.slice (irow (wL L))).set
  exact irowK_eq L ▸ rfl
theorem set_oaK : (oaK L).view.set = oaSet (wL L) := by
  show (oaV.view.slice (orowK L)).set = (oaV.view.slice (orow (wL L))).set
  exact orowK_eq L ▸ rfl
theorem set_obK : (obK L).view.set = obSet (wL L) := by
  show (obV.view.slice (orowK L)).set = (obV.view.slice (orow (wL L))).set
  exact orowK_eq L ▸ rfl

theorem pts_iaK (f : Buf (Elt F) (iaLoc d)) :
    ((iaK L).view.loc (V d (cV L) (jV L)) ↦[(iaK L).view.set]{fullShare} f : sProp 𝕄) = iaLoc d ↦[iaSet (wL L)]{fullShare} f := by
  rw [set_iaK]
theorem pts_ibK (f : Buf (Elt F) (ibLoc d)) :
    ((ibK L).view.loc (V d (cV L) (jV L)) ↦[(ibK L).view.set]{fullShare} f : sProp 𝕄) = ibLoc d ↦[ibSet (wL L)]{fullShare} f := by
  rw [set_ibK]
theorem pts_oaK (f : Buf (Elt F) (oaLoc d)) :
    ((oaK L).view.loc (V d (cV L) (jV L)) ↦[(oaK L).view.set]{fullShare} f : sProp 𝕄) = oaLoc d ↦[oaSet (wL L)]{fullShare} f := by
  rw [set_oaK]
theorem pts_obK (f : Buf (Elt F) (obLoc d)) :
    ((obK L).view.loc (V d (cV L) (jV L)) ↦[(obK L).view.set]{fullShare} f : sProp 𝕄) = obLoc d ↦[obSet (wL L)]{fullShare} f := by
  rw [set_obK]
theorem pts_taV (q : PosShare TreeShare) (f : Buf (Elt F) (taLoc d)) :
    (taV.view.loc (V d (cV L) (jV L)) ↦{q} f : sProp 𝕄) = taLoc d ↦{q} f := rfl
theorem pts_tbV (q : PosShare TreeShare) (f : Buf (Elt F) (tbLoc d)) :
    (tbV.view.loc (V d (cV L) (jV L)) ↦{q} f : sProp 𝕄) = tbLoc d ↦{q} f := rfl
theorem pts_laV (f : Buf (Elt F) ((V d (cV L) (jV L)).loc cc0_scratch0)) :
    (laV.view.loc (V d (cV L) (jV L)) ↦{fullShare} f : sProp 𝕄) = (V d (cV L) (jV L)).loc cc0_scratch0 ↦{fullShare} f := rfl
theorem pts_lbV (f : Buf (Elt F) ((V d (cV L) (jV L)).loc cc0_scratch1)) :
    (lbV.view.loc (V d (cV L) (jV L)) ↦{fullShare} f : sProp 𝕄) = (V d (cV L) (jV L)).loc cc0_scratch1 ↦{fullShare} f := rfl
theorem pts_raV (f : Buf (Elt F) ((V d (cV L) (jV L)).loc cc0_scratch2)) :
    (raV.view.loc (V d (cV L) (jV L)) ↦{fullShare} f : sProp 𝕄) = (V d (cV L) (jV L)).loc cc0_scratch2 ↦{fullShare} f := rfl
theorem pts_rbV (f : Buf (Elt F) ((V d (cV L) (jV L)).loc cc0_scratch3)) :
    (rbV.view.loc (V d (cV L) (jV L)) ↦{fullShare} f : sProp 𝕄) = (V d (cV L) (jV L)).loc cc0_scratch3 ↦{fullShare} f := rfl

abbrev cGcell (d : Dev nD) (c : Fin τ.nSC) (i : Fin τ.nSub) : GSem nD τ sig := (V d c i, .dma cc0_scratch4.sem)
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)
abbrev c3cell (d : Dev nD) (c : Fin τ.nSC) (i : Fin τ.nSub) : GSem nD τ sig := (V d c i, .dma cc0_scoped3.sem)

/-- The subcore's own semaphores beyond the five its program uses. -/
def restCells (d : Dev nD) (c : Fin τ.nSC) (i : Fin τ.nSub) : Finset (GSem nD τ sig) :=
  (((((ownCells (V d c i)).erase (cGcell d c i)).erase (c0cell d c i)).erase (c1cell d c i)).erase (c2cell d c i)).erase (c3cell d c i)

/-- The subcore's own semaphores: the five its program uses and the rest. -/
theorem ownSems0_V :
    (ownSems0 (V d (cV L) (jV L)) : sProp 𝕄)
      = iprop(semVal (cGcell d (cV L) (jV L)) 0 ∗ semVal (c0cell d (cV L) (jV L)) 0 ∗ semVal (c1cell d (cV L) (jV L)) 0
          ∗ semVal (c2cell d (cV L) (jV L)) 0 ∗ semVal (c3cell d (cV L) (jV L)) 0
          ∗ bigSep (restCells d (cV L) (jV L)) fun g => semVal g 0) := by
  have hin : ∀ s : DmaSem sig, (SemLoc.dma s : SemLoc sig).isScoped .scVector = true → ((V d (cV L) (jV L), SemLoc.dma s) : GSem nD τ sig) ∈ ownCells (V d (cV L) (jV L)) :=
    fun s hs => mem_ownCells.mpr ⟨rfl, hs⟩
  have hne : ∀ s s' : DmaSem sig, s ≠ s' → ((V d (cV L) (jV L), SemLoc.dma s) : GSem nD τ sig) ≠ (V d (cV L) (jV L), SemLoc.dma s') :=
    fun s s' h e => h (by simpa using e)
  unfold SparseCore.Cfg.ownSems0 restCells
  rw [SparseCore.bigSep_erase' (hin cc0_scratch4.sem (by decide)),
    SparseCore.bigSep_erase' (Finset.mem_erase.mpr ⟨hne cc0_scoped0.sem cc0_scratch4.sem (by decide), hin _ (by decide)⟩),
    SparseCore.bigSep_erase' (Finset.mem_erase.mpr ⟨hne cc0_scoped1.sem cc0_scoped0.sem (by decide),
      Finset.mem_erase.mpr ⟨hne cc0_scoped1.sem cc0_scratch4.sem (by decide), hin _ (by decide)⟩⟩),
    SparseCore.bigSep_erase' (Finset.mem_erase.mpr ⟨hne cc0_scoped2.sem cc0_scoped1.sem (by decide),
      Finset.mem_erase.mpr ⟨hne cc0_scoped2.sem cc0_scoped0.sem (by decide),
      Finset.mem_erase.mpr ⟨hne cc0_scoped2.sem cc0_scratch4.sem (by decide), hin _ (by decide)⟩⟩⟩),
    SparseCore.bigSep_erase' (Finset.mem_erase.mpr ⟨hne cc0_scoped3.sem cc0_scoped2.sem (by decide),
      Finset.mem_erase.mpr ⟨hne cc0_scoped3.sem cc0_scoped1.sem (by decide),
      Finset.mem_erase.mpr ⟨hne cc0_scoped3.sem cc0_scoped0.sem (by decide),
      Finset.mem_erase.mpr ⟨hne cc0_scoped3.sem cc0_scratch4.sem (by decide), hin _ (by decide)⟩⟩⟩⟩)]

/-- The subcore's own buffers beyond its four scratch buffers. -/
def restRefs (c : Fin τ.nSC) (i : Fin τ.nSub) : Finset (DevRef τ sig) :=
  ((((ownRefs (τ := τ) (.scVector c i)).erase ((Proc.scVector c i).devRef cc0_scratch0)).erase ((Proc.scVector c i).devRef cc0_scratch1)).erase
    ((Proc.scVector c i).devRef cc0_scratch2)).erase ((Proc.scVector c i).devRef cc0_scratch3)

/-- The subcore's own buffers: its four scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (restRefs (cV L) (jV L)) fun b => iprop(∃ f, ((d, b) : Loc nD τ sig) ↦{fullShare} f)) := by
  have hin : ∀ b : Ref sig .scVector, ((Proc.scVector (cV L) (jV L)).devRef b).owner = .proc (.scVector (cV L) (jV L)) →
      (Proc.scVector (cV L) (jV L)).devRef b ∈ ownRefs (τ := τ) (.scVector (cV L) (jV L)) :=
    fun b hb => SparseCore.Cfg.mem_ownRefs_of_owner (p := Proc.scVector (cV L) (jV L)) hb
  have hne : ∀ b b' : Ref sig .scVector, b ≠ b' → (Proc.scVector (τ := τ) (cV L) (jV L)).devRef b ≠ (Proc.scVector (cV L) (jV L)).devRef b' :=
    fun b b' h e => h (Proc.devRef_injective _ e)
  unfold SparseCore.Cfg.ownBufs restRefs
  refine (SparseCore.bigSep_erase' (hin cc0_scratch0 rfl)).trans ?_
  rw [SparseCore.bigSep_erase' (Finset.mem_erase.mpr ⟨hne cc0_scratch1 cc0_scratch0 (by decide), hin cc0_scratch1 rfl⟩),
    SparseCore.bigSep_erase' (Finset.mem_erase.mpr ⟨hne cc0_scratch2 cc0_scratch1 (by decide),
      Finset.mem_erase.mpr ⟨hne cc0_scratch2 cc0_scratch0 (by decide), hin cc0_scratch2 rfl⟩⟩),
    SparseCore.bigSep_erase' (Finset.mem_erase.mpr ⟨hne cc0_scratch3 cc0_scratch2 (by decide),
      Finset.mem_erase.mpr ⟨hne cc0_scratch3 cc0_scratch1 (by decide),
      Finset.mem_erase.mpr ⟨hne cc0_scratch3 cc0_scratch0 (by decide), hin cc0_scratch3 rfl⟩⟩⟩)]

end Tile

end Cert.KernelIdeal.Hand

end
-- ==== Proof.KernelIdeal.TileRun.lean ====
/-
  One subcore's program, run: from its words, its shares and its rows it returns them with its rows of each result at the
  table rows that its words name.
-/
module

public import proofs.«01_k».proof.Proof.KernelIdeal.Tile

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a gather delivers -/

/-- The 64 rows gathered by the subcore's words are its rows of the whole lookup. -/
theorem gathered (L : grid0.Coords) (tab : S100000x128.Idx → Elt F .f32) (idx : S2048.Idx → Elt F .i32) (h : ∀ k, (idx k).toNat < 100000)
    (t : S100000x128.Idx → Elt F .f32) (ht : ∀ x, t x = tab x) (l : S64.Idx → Elt F .i32) (hl : ∀ x, l x = idx ((irowK L).emb x))
    (hn : S64.numel = S64x128.size (Shape.Gathers.axis' gathers_S100000x128_S64x128))
    (hin : ∀ x, (l x).toNat < S100000x128.size (Shape.Gathers.axis gathers_S100000x128_S64x128)) (j : S64x128.Idx) :
    SparseCore.gatherPayload gathers_S100000x128_S64x128 t (SparseCore.rows l hn hin) j = gRows tab idx ((orowK L).emb j) := by
  unfold SparseCore.gatherPayload gRows
  rw [ht]
  refine congrArg tab (funext fun a => ?_)
  match a with
  | ⟨0, _⟩ =>
    refine (Shape.Gathers.idx_axis gathers_S100000x128_S64x128 _ j).trans (Fin.ext ?_)
    show (l (S64.rowMajor.symm ((j 0).cast hn.symm))).toNat = (idx (listIx ((orowK L).emb j 0))).toNat % 100000
    rw [Nat.mod_eq_of_lt (h _), hl]
    refine congrArg (fun x => (idx x).toNat) (funext fun b => ?_)
    match b with
    | ⟨0, _⟩ =>
      apply Fin.ext
      have e : ((S64.rowMajor.symm ((j 0).cast hn.symm)) 0).val = (j 0).val := by
        rw [← Shape.rowMajor_val_one]; exact congrArg Fin.val (Equiv.apply_symm_apply _ _)
      show k0_off1 L 0 + 1 * ((S64.rowMajor.symm ((j 0).cast hn.symm)) 0).val = k0_off2 L 0 + 1 * (j 0).val
      rw [e, k0_off1_eq, k0_off2_eq]; rfl
  | ⟨1, _⟩ =>
    apply Fin.ext
    refine (Shape.Gathers.idx_of_ne gathers_S100000x128_S64x128 _ j ⟨1, by decide⟩ (by decide)).trans ?_
    show (j 1).val = k0_off2 L 1 + 1 * (j 1).val
    rw [k0_off2_eq]; simp

/-- The rectangle at the origin of a table's own extents moves no index. -/
theorem full_emb (x : S100000x128.Idx) :
    (Rect.unit (s := S100000x128) ![0, 0] S100000x128.size inb_S100000x128_S100000x128_0_0).emb x = x := by
  funext a
  match a with
  | ⟨0, _⟩ => exact Fin.ext (show 0 + 1 * (x 0).val = (x 0).val by omega)
  | ⟨1, _⟩ => exact Fin.ext (show 0 + 1 * (x 1).val = (x 1).val by omega)

section Tile

variable [FloatOps F] (tA tB : S100000x128.Idx → Elt F .f32) (iA iB : S2048.Idx → Elt F .i32)
variable (d : Dev nD) (L : grid0.Coords)

omit [FloatOps F] in
/-- What the first list's scratch buffer holds after its fetch, read. -/
theorem read_la (fs : Buf (Elt F) ((V d (cV L) (jV L)).loc cc0_scratch0)) (pay : S64.Idx → Elt F .i32)
    (hpay : pay = (iaK L).view.read (Elt F) iA) (x : S64.Idx) :
    laV.view.read (Elt F) (View.write (Elt F) laV.view fs pay Finset.univ) x = iA ((irowK L).emb x) := by
  subst hpay
  rw [View.write_whole_univ]
  simp only [Memref.view_whole, View.read_whole]
  exact (View.read_apply _ _).trans (cast_eq _ _)

omit [FloatOps F] in
/-- What the second list's scratch buffer holds after its fetch, read. -/
theorem read_lb (fs : Buf (Elt F) ((V d (cV L) (jV L)).loc cc0_scratch1)) (pay : S64.Idx → Elt F .i32)
    (hpay : pay = (ibK L).view.read (Elt F) iB) (x : S64.Idx) :
    lbV.view.read (Elt F) (View.write (Elt F) lbV.view fs pay Finset.univ) x = iB ((irowK L).emb x) := by
  subst hpay
  rw [View.write_whole_univ]
  simp only [Memref.view_whole, View.read_whole]
  exact (View.read_apply _ _).trans (cast_eq _ _)

omit [FloatOps F] in
/-- The whole token table read through its full slice is the table. -/
theorem read_ta (x : S100000x128.Idx) : taK.view.read (Elt F) tA x = tA x := by
  refine ((View.read_apply _ _).trans (cast_eq _ _)).trans (congrArg tA ?_)
  exact full_emb x

omit [FloatOps F] in
/-- The whole output table read through its full slice is the table. -/
theorem read_tb (x : S100000x128.Idx) : tbK.view.read (Elt F) tB x = tB x := by
  refine ((View.read_apply _ _).trans (cast_eq _ _)).trans (congrArg tB ?_)
  exact full_emb x

omit [FloatOps F] in
/-- The first result's rows after the copy out of a scratch buffer that holds `w` are at `g`, where the two agree. -/
theorem out_a (f : Buf (Elt F) (oaLoc d)) (w : S64x128.Idx → Elt F .f32) (g : S2048x128.Idx → Elt F .f32)
    (h : ∀ j, w j = g ((orowK L).emb j)) :
    ((oaK L).view.loc (V d (cV L) (jV L)) ↦[(oaK L).view.set]{fullShare} (oaK L).view.writes (Elt F) f [⟨Rect.whole S64x128, w⟩] : sProp 𝕄)
      = oaLoc d ↦[oaSet (wL L)]{fullShare} g := by
  rw [← pts_oaK]
  refine pointsTo_congr fun i hi => ?_
  obtain ⟨x, -, rfl⟩ := Finset.mem_map.mp hi
  refine Eq.trans ?_ (h x)
  have e := congrFun (View.read_writes_whole (Val := Elt F) (oaK L).view f w) x
  exact ((View.read_apply _ _).trans (cast_eq _ _)).symm.trans e

omit [FloatOps F] in
/-- The same of the second result's rows. -/
theorem out_b (f : Buf (Elt F) (obLoc d)) (w : S64x128.Idx → Elt F .f32) (g : S2048x128.Idx → Elt F .f32)
    (h : ∀ j, w j = g ((orowK L).emb j)) :
    ((obK L).view.loc (V d (cV L) (jV L)) ↦[(obK L).view.set]{fullShare} (obK L).view.writes (Elt F) f [⟨Rect.whole S64x128, w⟩] : sProp 𝕄)
      = obLoc d ↦[obSet (wL L)]{fullShare} g := by
  rw [← pts_obK]
  refine pointsTo_congr fun i hi => ?_
  obtain ⟨x, -, rfl⟩ := Finset.mem_map.mp hi
  refine Eq.trans ?_ (h x)
  have e := congrFun (View.read_writes_whole (Val := Elt F) (obK L).view f w) x
  exact ((View.read_apply _ _).trans (cast_eq _ _)).symm.trans e

omit [FloatOps F] in
/-- A share of the token table: of what its full slice covers, and of the (empty) rest. -/
theorem split_ta (q : PosShare TreeShare) (f : Buf (Elt F) (taV.view.loc (V d (cV L) (jV L)))) :
    (taV.view.loc (V d (cV L) (jV L)) ↦{q} f : sProp 𝕄) ⊣⊢ iprop((taK.view.loc (V d (cV L) (jV L)) ↦[taK.view.set]{q} f)
      ∗ taV.view.loc (V d (cV L) (jV L)) ↦[Finset.univ \ taK.view.set]{q} f) :=
  pointsTo_split_subset (Finset.subset_univ _)

omit [FloatOps F] in
/-- A share of the output table: of what its full slice covers, and of the (empty) rest. -/
theorem split_tb (q : PosShare TreeShare) (f : Buf (Elt F) (tbV.view.loc (V d (cV L) (jV L)))) :
    (tbV.view.loc (V d (cV L) (jV L)) ↦{q} f : sProp 𝕄) ⊣⊢ iprop((tbK.view.loc (V d (cV L) (jV L)) ↦[tbK.view.set]{q} f)
      ∗ tbV.view.loc (V d (cV L) (jV L)) ↦[Finset.univ \ tbK.view.set]{q} f) :=
  pointsTo_split_subset (Finset.subset_univ _)

set_option maxHeartbeats 8000000 in
/-- The task of vector subcore `(L 0, L 1)` of device `d`: given its part, with every word of the lists a row of the
    tables, it ends with its part, its rows of the results at the looked-up rows. -/
theorem tile_body (hF : (K (F := F)).Facts) (hA : ∀ k, (iA k).toNat < 100000) (hB : ∀ k, (iB k).toNat < 100000)
    (f g : S2048x128.Idx → Elt F .f32)
    (O : CellTallies nD τ sig (HIx 1)) (W : Waits sig (HIx 1)) (hO : ∀ g, O g none = 0) :
    iprop(levAts (K (F := F)).L (K (F := F)).lev ∗ emp ∗ part tA tB iA iB d (wL L) f g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L taV (Memref.isWhole_whole _) tbV (Memref.isWhole_whole _) iaV (Memref.isWhole_whole _) ibV (Memref.isWhole_whole _)
            oaV (Memref.isWhole_whole _) obV (Memref.isWhole_whole _) laV (Memref.isWhole_whole _) lbV (Memref.isWhole_whole _)
            raV (Memref.isWhole_whole _) rbV (Memref.isWhole_whole _) cc0_scratch4 cc0_scoped0 cc0_scoped1 cc0_scoped2 cc0_scoped3)
          fun _ => iprop(part tA tB iA iB d (wL L) (gRows tA iA) (gRows tB iB)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  unfold part
  iintro ⟨#Hlv, -, ⟨Hia, Hib, Hta, Htb, Hoa, Hob⟩, ⟨⟨%fla, Hla⟩, ⟨%flb, Hlb⟩, ⟨%fra, Hra⟩, ⟨%frb, Hrb⟩, Hbufs⟩, ⟨HsG, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hia' := (Entails.of_eq (pts_iaK (F := F) d L _).symm) $$ Hia
  ihave Hib' := (Entails.of_eq (pts_ibK (F := F) d L _).symm) $$ Hib
  ihave Hoa' := (Entails.of_eq (pts_oaK (F := F) d L _).symm) $$ Hoa
  ihave Hob' := (Entails.of_eq (pts_obK (F := F) d L _).symm) $$ Hob
  ihave Hta' := (Entails.of_eq (pts_taV (F := F) d L _ _).symm) $$ Hta
  ihave Htb' := (Entails.of_eq (pts_tbV (F := F) d L _ _).symm) $$ Htb
  ihave Hla' := (Entails.of_eq (pts_laV (F := F) d L _).symm) $$ Hla
  ihave Hlb' := (Entails.of_eq (pts_lbV (F := F) d L _).symm) $$ Hlb
  ihave Hra' := (Entails.of_eq (pts_raV (F := F) d L _).symm) $$ Hra
  ihave Hrb' := (Entails.of_eq (pts_rbV (F := F) d L _).symm) $$ Hrb
  sl_exec
  -- both lists are fetched; the gather of the token table's rows
  have hN : ∀ h : S100000x128.Gathers 0 S64x128, ∑ j, (raV.slice (S64x128.rowRect h.axis' j) (S64x128.stride_rowRect h.axis' j)).view.dmaCredit
      = raV.view.dmaCredit := by decide
  have hN' : ∀ h : S100000x128.Gathers 0 S64x128, ∑ j, (rbV.slice (S64x128.rowRect h.axis' j) (S64x128.stride_rowRect h.axis' j)).view.dmaCredit
      = rbV.view.dmaCredit := by decide
  have hla : laV.view.set = Finset.univ := View.set_whole _
  have hlb : lbV.view.set = Finset.univ := View.set_whole _
  have hra : raV.view.set = Finset.univ := View.set_whole _
  have hrb : rbV.view.set = Finset.univ := View.set_whole _
  ihave Hta2 := (split_ta (F := F) d L (tq (wL L)) tA).1 $$ Hta'
  icases Hta2 with ⟨Htas, Htar⟩
  ihave Hra2 := (Entails.of_eq (show (raV.view.loc (V d (cV L) (jV L)) ↦{fullShare} fra : sProp 𝕄)
      = raV.view.loc (V d (cV L) (jV L)) ↦[raV.view.set]{fullShare} fra by rw [hra])) $$ Hra'
  ihave Hla2 := (Entails.of_eq (show (laV.view.loc (V d (cV L) (jV L)) ↦{fullShare} View.write (Elt F) laV.view fla (tile_body.sl.dma0 iA L) Finset.univ : sProp 𝕄)
      = laV.view.loc (V d (cV L) (jV L)) ↦[laV.view.set]{fullShare} View.write (Elt F) laV.view fla (tile_body.sl.dma0 iA L) Finset.univ by rw [hla])) $$ Hla'
  have hinA : ∀ x, (laV.view.read (Elt F) (View.write (Elt F) laV.view fla (tile_body.sl.dma0 iA L) Finset.univ) x).toNat
      < S100000x128.size (Shape.Gathers.axis gathers_S100000x128_S64x128) := fun x => by rw [read_la iA d L fla (tile_body.sl.dma0 iA L) rfl]; exact hA _
  iapply (SparseCore.wp_indirectGatherLocal countersEmb 𝒱₀ (V d (cV L) (jV L)) none (hg := gathers_S100000x128_S64x128) (default : HIx 1)
      raV.view.dmaCredit (hN _) (by decide) hinA) $$ [Htas Hra2 Hla2 HsG]
  · isplitl [Htas]; · iexact Htas
    isplitl [Hra2]; · iexact Hra2
    isplitl [Hla2]; · iexact Hla2
    iexact HsG
  iintro Hfl
  sl_exec
  iapply (Transfers.wp_waitLocalO countersEmb 𝒱₀ (V d (cV L) (jV L)) none (default : HIx 1) (rfl : raV.view.dmaCredit = _)) $$ [Hfl HO]
  · isplitl [Hfl]; · iexact Hfl
    isplitl [HO]; · iexact HO
    iapply (Transfers.MayWaits.elim (SemLoc.dma cc0_scratch4.sem)) $$ Hmw
  iintro ⟨⟨Hra', Htas, Hla'⟩, HsG, HO⟩
  ihave Hta' := (split_ta (F := F) d L (tq (wL L)) tA).2 $$ [Htas Htar]; · isplitl [Htas] <;> iassumption
  ihave Hra3 := (Entails.of_eq (show (raV.view.loc (V d (cV L) (jV L)) ↦[raV.view.set]{fullShare} _ : sProp 𝕄)
      = raV.view.loc (V d (cV L) (jV L)) ↦{fullShare} _ by rw [hra])) $$ Hra'
  ihave Hla3 := (Entails.of_eq (show (laV.view.loc (V d (cV L) (jV L)) ↦[laV.view.set]{fullShare} _ : sProp 𝕄)
      = laV.view.loc (V d (cV L) (jV L)) ↦{fullShare} _ by rw [hla])) $$ Hla'
  sl_exec
  -- the gather of the output table's rows
  ihave Htb2 := (split_tb (F := F) d L (tq (wL L)) tB).1 $$ Htb'
  icases Htb2 with ⟨Htbs, Htbr⟩
  ihave Hrb2 := (Entails.of_eq (show (rbV.view.loc (V d (cV L) (jV L)) ↦{fullShare} frb : sProp 𝕄)
      = rbV.view.loc (V d (cV L) (jV L)) ↦[rbV.view.set]{fullShare} frb by rw [hrb])) $$ Hrb'
  ihave Hlb2 := (Entails.of_eq (show (lbV.view.loc (V d (cV L) (jV L)) ↦{fullShare} View.write (Elt F) lbV.view flb (tile_body.sl.dma0_1 iB L) Finset.univ : sProp 𝕄)
      = lbV.view.loc (V d (cV L) (jV L)) ↦[lbV.view.set]{fullShare} View.write (Elt F) lbV.view flb (tile_body.sl.dma0_1 iB L) Finset.univ by rw [hlb])) $$ Hlb'
  have hinB : ∀ x, (lbV.view.read (Elt F) (View.write (Elt F) lbV.view flb (tile_body.sl.dma0_1 iB L) Finset.univ) x).toNat
      < S100000x128.size (Shape.Gathers.axis gathers_S100000x128_S64x128) := fun x => by rw [read_lb iB d L flb (tile_body.sl.dma0_1 iB L) rfl]; exact hB _
  iapply (SparseCore.wp_indirectGatherLocal countersEmb 𝒱₀ (V d (cV L) (jV L)) none (hg := gathers_S100000x128_S64x128) (default : HIx 1)
      rbV.view.dmaCredit (hN' _) (by decide) hinB) $$ [Htbs Hrb2 Hlb2 HsG]
  · isplitl [Htbs]; · iexact Htbs
    isplitl [Hrb2]; · iexact Hrb2
    isplitl [Hlb2]; · iexact Hlb2
    iexact HsG
  iintro Hfl
  sl_exec
  iapply (Transfers.wp_waitLocalO countersEmb 𝒱₀ (V d (cV L) (jV L)) none (default : HIx 1) (rfl : rbV.view.dmaCredit = _)) $$ [Hfl HO]
  · isplitl [Hfl]; · iexact Hfl
    isplitl [HO]; · iexact HO
    iapply (Transfers.MayWaits.elim (SemLoc.dma cc0_scratch4.sem)) $$ Hmw
  iintro ⟨⟨Hrb', Htbs, Hlb'⟩, HsG, HO⟩
  ihave Htb' := (split_tb (F := F) d L (tq (wL L)) tB).2 $$ [Htbs Htbr]; · isplitl [Htbs] <;> iassumption
  ihave Hrb3 := (Entails.of_eq (show (rbV.view.loc (V d (cV L) (jV L)) ↦[rbV.view.set]{fullShare} _ : sProp 𝕄)
      = rbV.view.loc (V d (cV L) (jV L)) ↦{fullShare} _ by rw [hrb])) $$ Hrb'
  ihave Hlb3 := (Entails.of_eq (show (lbV.view.loc (V d (cV L) (jV L)) ↦[lbV.view.set]{fullShare} _ : sProp 𝕄)
      = lbV.view.loc (V d (cV L) (jV L)) ↦{fullShare} _ by rw [hlb])) $$ Hlb'
  sl_exec
  sl_step
  isplitl [Hia' Hib' Hta' Htb' Hoa' Hob']
  · isplitl [Hia']; · iapply (Entails.of_eq (pts_iaK (F := F) d L _)); iexact Hia'
    isplitl [Hib']; · iapply (Entails.of_eq (pts_ibK (F := F) d L _)); iexact Hib'
    isplitl [Hta']; · iexact Hta'
    isplitl [Htb']; · iexact Htb'
    isplitl [Hoa']
    · iapply (Entails.of_eq (out_a (F := F) d L f _ (gRows tA iA) fun j => ?_)); rotate_left; · iexact Hoa'
      refine Eq.trans (congrFun (View.read_write_univ (v := raV.view) fra _) j) ?_
      exact gathered L tA iA hA (taK.view.read (Elt F) tA) (read_ta tA) _ (fun x => read_la iA d L fla (tile_body.sl.dma0 iA L) rfl x) rfl hinA j
    · iapply (Entails.of_eq (out_b (F := F) d L g _ (gRows tB iB) fun j => ?_)); rotate_left; · iexact Hob'
      refine Eq.trans (congrFun (View.read_write_univ (v := rbV.view) frb _) j) ?_
      exact gathered L tB iB hB (tbK.view.read (Elt F) tB) (read_tb tB) _ (fun x => read_lb iB d L flb (tile_body.sl.dma0_1 iB L) rfl x) rfl hinB j
  isplitl [Hla3 Hlb3 Hra3 Hrb3 Hbufs]
  · isplitl [Hla3]; · iexists _; iexact Hla3
    isplitl [Hlb3]; · iexists _; iexact Hlb3
    isplitl [Hra3]; · iexists _; iexact Hra3
    isplitl [Hrb3]; · iexists _; iexact Hrb3
    iexact Hbufs
  isplitl [HsG Hs0 Hs1 Hs2 Hs3 Hsems]
  · isplitl [HsG]; · iexact HsG
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Hand

end
-- ==== Proof.KernelIdeal.Lookup.lean ====
/-
  The SparseCore launch: what its handshakes carry, that every task meets its obligation, and that the two index lists,
  the two tables and the two results split into the 32 tasks' parts and join again.
-/
module

public import proofs.«01_k».proof.Proof.KernelIdeal.TileRun

@[expose] public section

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the handshakes carry -/

/-- The contents that the lookup starts from, on one device: the two tables, the two index lists, and the two results'
    contents before. -/
structure Ins (F : FTy → Type) where
  tA : S100000x128.Idx → Elt F .f32
  tB : S100000x128.Idx → Elt F .f32
  iA : S2048.Idx → Elt F .i32
  iB : S2048.Idx → Elt F .i32
  f : S2048x128.Idx → Elt F .f32
  g : S2048x128.Idx → Elt F .f32

/-- Every word of both lists names a row of the tables. -/
def Ins.InRange (I : Ins F) : Prop := (∀ k, (I.iA k).toNat < 100000) ∧ ∀ k, (I.iB k).toNat < 100000

/-- The `i`-th task's part before, -/
abbrev Ins.pre (I : Ins F) (d : Dev nD) (i : Fin 32) : sProp 𝕄 := part I.tA I.tB I.iA I.iB d i I.f I.g
/-- and after: its rows of the results looked up. -/
abbrev Ins.post (I : Ins F) (d : Dev nD) (i : Fin 32) : sProp 𝕄 := part I.tA I.tB I.iA I.iB d i (gRows I.tA I.iA) (gRows I.tB I.iB)

instance part_storable (tA tB : S100000x128.Idx → Elt F .f32) (iA iB : S2048.Idx → Elt F .i32) (d : Dev nD) (i : Fin 32)
    (f g : S2048x128.Idx → Elt F .f32) : BI.Storable (upEmb : UEmb _ 𝕄) (part tA tB iA iB d i f g) := by
  unfold part; infer_instance

variable (I : Dev nD → Ins F)

/-- A core takes its sixteen tasks' parts and brings them back. -/
def P : (K (F := F)).Pay (nD := nD) (Val := Elt F) (Name := ℕ) (U := UU) where
  st := fun q d c => match q with
    | 0 => bigSep Finset.univ fun i : Fin 16 => (I d).pre d (wid (Fin.cast nCore_zero c) i)
  dn := fun q d c => match q with
    | 0 => bigSep Finset.univ fun i : Fin 16 => (I d).post d (wid (Fin.cast nCore_zero c) i)
  go := fun q d c i => match q with
    | 0 => (I d).pre d (wid (Fin.cast nCore_zero c) (Fin.cast nSub_zero i))
  td := fun q d c i => match q with
    | 0 => (I d).post d (wid (Fin.cast nCore_zero c) (Fin.cast nSub_zero i))
  x := fun _ _ => iprop(emp)

instance P_storable : (P (F := F) I).IsStorable where
  st q d c := match q with
    | 0 => (inferInstance : BI.Storable (upEmb : UEmb _ 𝕄) (bigSep Finset.univ fun i : Fin 16 => (I d).pre d (wid (Fin.cast nCore_zero c) i)))
  dn q d c := match q with
    | 0 => (inferInstance : BI.Storable (upEmb : UEmb _ 𝕄) (bigSep Finset.univ fun i : Fin 16 => (I d).post d (wid (Fin.cast nCore_zero c) i)))
  go q d c i := match q with
    | 0 => (inferInstance : BI.Storable (upEmb : UEmb _ 𝕄) ((I d).pre d (wid (Fin.cast nCore_zero c) (Fin.cast nSub_zero i))))
  td q d c i := match q with
    | 0 => (inferInstance : BI.Storable (upEmb : UEmb _ 𝕄) ((I d).post d (wid (Fin.cast nCore_zero c) (Fin.cast nSub_zero i))))

/-! ## The tasks' obligation -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_sc_gather (coordsV c s) taV (Memref.isWhole_whole _) tbV (Memref.isWhole_whole _)
          iaV (Memref.isWhole_whole _) ibV (Memref.isWhole_whole _) oaV (Memref.isWhole_whole _) obV (Memref.isWhole_whole _)
          laV (Memref.isWhole_whole _) lbV (Memref.isWhole_whole _) raV (Memref.isWhole_whole _) rbV (Memref.isWhole_whole _)
          cc0_scratch4 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the launch meets its obligation. -/
theorem tileObl [FloatOps F] (hF : (K (F := F)).Facts) (hI : ∀ d, (I d).InRange) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (I d).tA (I d).tB (I d).iA (I d).iB d (coordsV ⟨_, hci.1⟩ ⟨_, hci.2⟩) hF (hI d).1 (hI d).2 (I d).f (I d).g O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's parts are its tasks' parts, before and after. -/
theorem vecSplit : (K (F := F)).VecSplit' (P I) 0 := by
  intro d c
  show (bigSep Finset.univ fun i : Fin 16 => (I d).pre d (wid (Fin.cast nCore_zero c) i)) ⊢ |={Set.univ}=> iprop(
      (bigSep Finset.univ fun i : Fin ((K (F := F)).nSub 0) => (I d).pre d (wid (Fin.cast nCore_zero c) (Fin.cast nSub_zero i)))
      ∗ ((bigSep Finset.univ fun i : Fin ((K (F := F)).nSub 0) => (I d).post d (wid (Fin.cast nCore_zero c) (Fin.cast nSub_zero i)))
          -∗ bigSep Finset.univ fun i : Fin 16 => (I d).post d (wid (Fin.cast nCore_zero c) i)))
  rw [bigSep_tasks (F := F) (fun i => (I d).pre d (wid (Fin.cast nCore_zero c) i)),
    bigSep_tasks (F := F) (fun i => (I d).post d (wid (Fin.cast nCore_zero c) i))]
  iintro H; imodintro
  isplitl [H]; · iexact H
  iintro H; iexact H

/-! ## The whole is its 32 parts -/

theorem iaSet_eq (i : Fin 32) : iaSet i = (irow i).set := by
  show ((View.whole (main_v0_scv : Ref sig .scVector)).slice (irow i)).set = _
  rw [View.set_slice]; exact Finset.map_refl
theorem ibSet_eq (i : Fin 32) : ibSet i = (irow i).set := by
  show ((View.whole (main_v1_scv : Ref sig .scVector)).slice (irow i)).set = _
  rw [View.set_slice]; exact Finset.map_refl
theorem oaSet_eq (i : Fin 32) : oaSet i = (orow i).set := by
  show ((View.whole (main_v3_0_scv : Ref sig .scVector)).slice (orow i)).set = _
  rw [View.set_slice]; exact Finset.map_refl
theorem obSet_eq (i : Fin 32) : obSet i = (orow i).set := by
  show ((View.whole (main_v3_1_scv : Ref sig .scVector)).slice (orow i)).set = _
  rw [View.set_slice]; exact Finset.map_refl

/-- A buffer held whole is its parts, when the parts are apart and cover it. -/
theorem pts_parts {ℓ : Loc nD τ sig} (J : Fin 32 → Finset (Idx ℓ)) (hd : ∀ i j, i ≠ j → Disjoint (J i) (J j))
    (hc : Finset.univ.biUnion J = Finset.univ) (f : Buf (Elt F) ℓ) :
    (ℓ ↦{fullShare} f : sProp 𝕄) = bigSep Finset.univ fun i => ℓ ↦[J i]{fullShare} f := by
  rw [← pointsTo_biUnion Finset.univ (ℓ := ℓ) J (fun i _ j _ h => hd i j h), hc]

theorem ia_parts (d : Dev nD) (f : Buf (Elt F) (iaLoc d)) :
    (iaLoc d ↦{fullShare} f : sProp 𝕄) = bigSep Finset.univ fun i => iaLoc d ↦[iaSet i]{fullShare} f :=
  pts_parts (ℓ := iaLoc d) iaSet (fun i j h => by rw [iaSet_eq, iaSet_eq]; exact Rect.part_disjoint idiv h)
    ((Finset.biUnion_congr rfl fun i _ => iaSet_eq i).trans (Rect.biUnion_part idiv)) f
theorem ib_parts (d : Dev nD) (f : Buf (Elt F) (ibLoc d)) :
    (ibLoc d ↦{fullShare} f : sProp 𝕄) = bigSep Finset.univ fun i => ibLoc d ↦[ibSet i]{fullShare} f :=
  pts_parts (ℓ := ibLoc d) ibSet (fun i j h => by rw [ibSet_eq, ibSet_eq]; exact Rect.part_disjoint idiv h)
    ((Finset.biUnion_congr rfl fun i _ => ibSet_eq i).trans (Rect.biUnion_part idiv)) f
theorem oa_parts (d : Dev nD) (f : Buf (Elt F) (oaLoc d)) :
    (oaLoc d ↦{fullShare} f : sProp 𝕄) = bigSep Finset.univ fun i => oaLoc d ↦[oaSet i]{fullShare} f :=
  pts_parts (ℓ := oaLoc d) oaSet (fun i j h => by rw [oaSet_eq, oaSet_eq]; exact Rect.part_disjoint odiv h)
    ((Finset.biUnion_congr rfl fun i _ => oaSet_eq i).trans (Rect.biUnion_part odiv)) f
theorem ob_parts (d : Dev nD) (f : Buf (Elt F) (obLoc d)) :
    (obLoc d ↦{fullShare} f : sProp 𝕄) = bigSep Finset.univ fun i => obLoc d ↦[obSet i]{fullShare} f :=
  pts_parts (ℓ := obLoc d) obSet (fun i j h => by rw [obSet_eq, obSet_eq]; exact Rect.part_disjoint odiv h)
    ((Finset.biUnion_congr rfl fun i _ => obSet_eq i).trans (Rect.biUnion_part odiv)) f

/-- The lookup's six buffers, whole, the results at `f`, `g`. -/
def whole (I : Ins F) (d : Dev nD) (f g : S2048x128.Idx → Elt F .f32) : sProp 𝕄 :=
  iprop((iaLoc d ↦{fullShare} I.iA) ∗ (ibLoc d ↦{fullShare} I.iB) ∗ (taLoc d ↦{fullShare} I.tA) ∗ (tbLoc d ↦{fullShare} I.tB)
    ∗ (oaLoc d ↦{fullShare} f) ∗ (obLoc d ↦{fullShare} g))

/-- The six whole buffers are the 32 parts. -/
theorem whole_eq (I : Ins F) (d : Dev nD) (f g : S2048x128.Idx → Elt F .f32) :
    whole I d f g = bigSep Finset.univ fun i : Fin 32 => part I.tA I.tB I.iA I.iB d i f g := by
  unfold whole part
  rw [bigSep_sep', bigSep_sep', bigSep_sep', bigSep_sep', bigSep_sep', ia_parts, ib_parts, oa_parts, ob_parts]
  rw [pointsTo_piecesOf (ℓ := taLoc d) Finset.univ I.tA (by norm_num : 0 < 32) fullShare,
    pointsTo_piecesOf (ℓ := tbLoc d) Finset.univ I.tB (by norm_num : 0 < 32) fullShare]

/-- The 32 tasks as two cores of sixteen. -/
def coreEquiv : Fin 2 × Fin 16 ≃ Fin 32 where
  toFun p := wid p.1 p.2
  invFun i := (⟨i.val % 2, Nat.mod_lt _ (by norm_num)⟩, ⟨i.val / 2, by omega⟩)
  left_inv p := by
    obtain ⟨c, s⟩ := p
    ext <;> simp [wid] <;> omega
  right_inv i := by ext; simp [wid]; omega

/-- Over all tasks is over the cores, over each core's tasks. -/
theorem bigSep_cores (Φ : Fin 32 → sProp 𝕄) :
    bigSep Finset.univ Φ = bigSep Finset.univ fun c : Fin ((K (F := F)).nCore 0) => bigSep Finset.univ fun i : Fin 16 => Φ (wid (Fin.cast nCore_zero c) i) := by
  rw [bigSep_univ_equiv coreEquiv Φ, bigSep_univ_prod]; rfl

/-- What the launch takes over all its cores is the six buffers whole, -/
theorem st_eq (d : Dev nD) : (bigSep Finset.univ fun c : Fin ((K (F := F)).nCore 0) => (P I).st 0 d c) = whole (I d) d (I d).f (I d).g :=
  ((whole_eq (I d) d (I d).f (I d).g).trans (bigSep_cores _)).symm
/-- and what it brings back is the six buffers whole, the results looked up. -/
theorem dn_eq (d : Dev nD) : (bigSep Finset.univ fun c : Fin ((K (F := F)).nCore 0) => (P I).dn 0 d c)
    = whole (I d) d (gRows (I d).tA (I d).iA) (gRows (I d).tB (I d).iB) :=
  ((whole_eq (I d) d _ _).trans (bigSep_cores _)).symm

end Cert.KernelIdeal.Hand

end
-- ==== Proof.KernelIdeal.Head.lean ====
/-
  The projection kernel's body at one grid point: what it leaves in each buffer, in each of its three cases (the first
  point, the points between, the last point).
-/
module

public import proofs.«01_k».proof.Proof.KernelIdeal.Lookup
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's conditions -/

/-- The condition of the body's first branch, from the grid coordinate. -/
abbrev isFirst (i : grid1.Coords) : Prop := (Scalar.cmpi .ne (Scalar.extui (Scalar.cmpi .eq (BitVec.ofNat 32 (i 0).val) 0#32)) 0#32) = 1#1
/-- It holds at the first point only. -/
theorem isFirst_iff : ∀ t : Fin cfg1.N, isFirst (grid1.coords t) ↔ t.val % 50 = 0 :=
  (fun t => by
    have ht : t.val < 50 := Nat.lt_of_lt_of_eq t.isLt N_1
    have e0 : (grid1.coords t 0).val = t.val / 1 % 50 := Pipeline.Grid.coords_val t 0 (by decide) rfl
    simp only [isFirst, e0]
    word_cmp
   : ∀ t : Fin grid1.N, isFirst (grid1.coords t) ↔ t.val % 50 = 0)

/-- The condition of its second branch. -/
abbrev isEarly (i : grid1.Coords) : Prop := (Scalar.cmpi .ne (Scalar.extui (Scalar.cmpi .slt (BitVec.ofNat 32 (i 0).val) 49#32)) 0#32) = 1#1
/-- It holds before the last point. -/
theorem isEarly_iff : ∀ t : Fin cfg1.N, isEarly (grid1.coords t) ↔ t.val < 49 :=
  (by decide +kernel : ∀ t : Fin grid1.N, isEarly (grid1.coords t) ↔ t.val < 49)

/-- The condition of its third branch. -/
abbrev isLast (i : grid1.Coords) : Prop := k1_cond3 i = 1#1
/-- It holds at the last point only. -/
theorem isLast_iff : ∀ t : Fin cfg1.N, isLast (grid1.coords t) ↔ t.val % 50 = 49 :=
  (fun t => by
    have ht : t.val < 50 := Nat.lt_of_lt_of_eq t.isLt N_1
    have e0 : (grid1.coords t 0).val = t.val / 1 % 50 := Pipeline.Grid.coords_val t 0 (by decide) rfl
    simp only [isLast, k1_cond3, e0]
    word_cmp
   : ∀ t : Fin grid1.N, isLast (grid1.coords t) ↔ t.val % 50 = 49)

/-! ## The body's triple, case by case -/

/-- The first row of the running sums. -/
def row0 (x : Vec F S8x2048 .f32) : Vec F S1x2048 .f32 := VecWindow.window x ![0, 0] S1x2048.size inb_S8x2048_S1x2048_0_0

omit [FloatOps F] in
/-- The first row, loaded after a store of all eight. -/
theorem readCov_row0 [∀ e, Nonempty (Elt F e)] (v : View sig .tc .vmem S8x2048 .f32) (w : Vec F S8x2048 .f32) (L : List (View.Piece (Elt F) S8x2048 .f32)) :
    v.readCov (⟨Rect.unit (s := S8x2048) ![0, 0] S8x2048.size inb_S8x2048_S8x2048_0_0, w⟩ :: L)
      (Rect.unit (s := S8x2048) ![0, 0] S1x2048.size inb_S8x2048_S1x2048_0_0).toLoadRect = row0 w := by
  funext y
  exact congrFun (View.read_writes_full v v.junk inb_S8x2048_S8x2048_0_0 w L)
    ((Rect.unit (s := S8x2048) ![0, 0] S1x2048.size inb_S8x2048_S1x2048_0_0).emb y)

variable (c : Dev nD) (i : grid1.Coords)
  (arg1 : Memref sig .tc .vmem S2048x128 .f32) (harg1 : arg1.IsWhole) (arg2 : Memref sig .tc .vmem S2048x128 .f32) (harg2 : arg2.IsWhole)
  (arg3 : Memref sig .tc .vmem S2000x128 .f32) (harg3 : arg3.IsWhole) (arg4 : Memref sig .tc .vmem S2048x128 .f32) (harg4 : arg4.IsWhole)
  (arg5 : Memref sig .tc .vmem S1x2048 .f32) (harg5 : arg5.IsWhole) (arg6 : Memref sig .tc .vmem S1x2000x2048 .f32) (harg6 : arg6.IsWhole)
  (arg7 : Memref sig .tc .smem S1x1 .f32) (harg7 : arg7.IsWhole) (arg8 : Memref sig .tc .vmem S128x2048 .f32) (harg8 : arg8.IsWhole)
  (arg9 : Memref sig .tc .vmem S8x2048 .f32) (harg9 : arg9.IsWhole) (arg10 : Memref sig .tc .vmem S8x2000 .f32) (harg10 : arg10.IsWhole)
  (x0 : Vec F S2048x128 .f32) (x1 : Vec F S2048x128 .f32) (x2 : Vec F S2000x128 .f32) (x3 : Vec F S2048x128 .f32) (x4 : Vec F S1x2048 .f32)
  (xs0 : Vec F S128x2048 .f32) (xs1 : Vec F S8x2048 .f32) (xs2 : Vec F S8x2000 .f32)

set_option maxHeartbeats 1200000 in
/-- At the first point: the transposed sum of the first two operands, the block's product with it, its sums of exponentials, and ones. -/
theorem body_first (hc0 : isFirst i) (hc1 : isEarly i) (hc2 : ¬isLast i) (E : Set ℕ) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay5 x2 (k1_pay1 x0 x1)) ∗ owns (c : Thread nD τ) arg8 fullShare (k1_pay1 x0 x1)
            ∗ owns (c : Thread nD τ) arg9 fullShare (k1_pay7 x2 (k1_pay1 x0 x1) k1_pay2 k1_pay3) ∗ owns (c : Thread nD τ) arg10 fullShare k1_pay3) -∗ Q ⟨⟩))
      ⊢ wp frame (wpE (defs₀ (F := F)) 𝒱₀ c none) E (cc1__tc_head_body i arg1 harg1 arg2 harg2 arg3 harg3 arg4 harg4 arg5 harg5 arg6 harg6 arg7 harg7 arg8 harg8 arg9 harg9 arg10 harg10) Q := by
  simp only [cc1__tc_head_body_eq_skeleton]; unfold cc1__tc_head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; delta body_first.sl.v5 body_first.sl.HS0_1; rw [View.read_writes_full, View.readCov_full, View.readAt_full, View.readAt_full, View.readAt_full, hf0, hf1, hf2]
  isplitl [HS0]
  · iexists _; isplitr
    swap; · iexact HS0
    ipureintro; delta body_first.sl.HS0_1; rw [View.read_writes_full, View.readAt_full, View.readAt_full, hf0, hf1]
  isplitl [HS1]
  · iexists _; isplitr
    swap; · iexact HS1
    ipureintro; delta body_first.sl.v5 body_first.sl.v17 body_first.sl.v18 body_first.sl.HS0_1 body_first.sl.HS1_1 body_first.sl.HS2_1
    rw [View.read_writes_full, View.readCov_full, View.readCov_full, View.readCov_full, View.readAt_full, View.readAt_full, View.readAt_full, hf0, hf1, hf2]
  iexists _; isplitr
  swap; · iexact HS2
  ipureintro; delta body_first.sl.HS2_1; rw [View.read_writes_full]

set_option maxHeartbeats 1200000 in
/-- At a point between: the block's product, its sums of exponentials added. -/
theorem body_mid (hc0 : ¬isFirst i) (hc1 : isEarly i) (hc2 : ¬isLast i) (E : Set ℕ) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay5 x2 xs0) ∗ owns (c : Thread nD τ) arg8 fullShare xs0
            ∗ owns (c : Thread nD τ) arg9 fullShare (k1_pay7 x2 xs0 xs1 xs2) ∗ owns (c : Thread nD τ) arg10 fullShare xs2) -∗ Q ⟨⟩))
      ⊢ wp frame (wpE (defs₀ (F := F)) 𝒱₀ c none) E (cc1__tc_head_body i arg1 harg1 arg2 harg2 arg3 harg3 arg4 harg4 arg5 harg5 arg6 harg6 arg7 harg7 arg8 harg8 arg9 harg9 arg10 harg10) Q := by
  simp only [cc1__tc_head_body_eq_skeleton]; unfold cc1__tc_head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs0; obtain rfl := harg9.eq_unread hfs1; obtain rfl := harg10.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; rw [View.read_writes_full, View.readAt_full, View.readAt_full, hf2, hfs0]
  isplitl [HS0]
  · iexists _; isplitr; · ipureintro; exact harg8.read_unread _
    iexact HS0
  isplitl [HS1]
  · iexists _; isplitr
    swap; · iexact HS1
    ipureintro; rw [View.read_writes_full, View.readAt_full, View.readAt_full, View.readAt_full, View.readAt_full, hf2, hfs0, hfs1, hfs2]
  iexists _; isplitr; · ipureintro; exact harg10.read_unread _
  iexact HS2

set_option maxHeartbeats 1200000 in
/-- At the last point: besides, the mean of the losses. -/
theorem body_last (hc0 : ¬isFirst i) (hc1 : ¬isEarly i) (hc2 : isLast i) (E : Set ℕ) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay5 x2 xs0) ∗ owns (c : Thread nD τ) arg7 fullShare (fun _ => k1_pay9 (row0 (k1_pay8 i x2 xs0 xs1 xs2)) xs0 x3 x4)
            ∗ owns (c : Thread nD τ) arg8 fullShare xs0 ∗ owns (c : Thread nD τ) arg9 fullShare (k1_pay8 i x2 xs0 xs1 xs2) ∗ owns (c : Thread nD τ) arg10 fullShare xs2) -∗ Q ⟨⟩))
      ⊢ wp frame (wpE (defs₀ (F := F)) 𝒱₀ c none) E (cc1__tc_head_body i arg1 harg1 arg2 harg2 arg3 harg3 arg4 harg4 arg5 harg5 arg6 harg6 arg7 harg7 arg8 harg8 arg9 harg9 arg10 harg10) Q := by
  simp only [cc1__tc_head_body_eq_skeleton]; unfold cc1__tc_head_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hf3; obtain rfl := harg5.eq_unread hf4
  obtain rfl := harg8.eq_unread hfs0; obtain rfl := harg9.eq_unread hfs1; obtain rfl := harg10.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; rw [View.read_writes_full, View.readAt_full, View.readAt_full, hf2, hfs0]
  isplitl [H6]
  · iexists _; isplitr
    swap; · iexact H6
    ipureintro; delta body_last.sl.v32 body_last.sl.HS1_1
    rw [View.read_writes_full, readCov_row0]
    rw [View.readAt_full, View.readAt_full, View.readAt_full, View.readAt_full, View.readAt_full, View.readAt_full, hf2, hf3, hf4, hfs0, hfs1, hfs2]; rfl
  isplitl [HS0]
  · iexists _; isplitr; · ipureintro; exact harg8.read_unread _
    iexact HS0
  isplitl [HS1]
  · iexists _; isplitr
    swap; · iexact HS1
    ipureintro; delta body_last.sl.HS1_1; rw [View.read_writes_full, View.readAt_full, View.readAt_full, View.readAt_full, View.readAt_full, hf2, hfs0, hfs1, hfs2]
  iexists _; isplitr; · ipureintro; exact harg10.read_unread _
  iexact HS2

end Cert.KernelIdeal.Hand

end
-- ==== Proof.KernelIdeal.Sweep.lean ====
/-
  The projection kernel's sweep over its 50 blocks: what its windows and its scratch hold after each point, and that the
  body at each point takes the one to the next.
-/
module

public import proofs.«01_k».proof.Proof.KernelIdeal.Head
public import proofs.«01_k».proof.Proof.Gen.KernelIdeal.Points

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The proof data's type: what the windows and the region's own buffers hold. -/
abbrev WDat (F : FTy → Type) (c : Dev nD) := Dat τ (Elt F) (HIx 1) ℕ UU ℕ cfg1 c

variable (V : (c : Dev nD) → (b : Ref sig .tc) → Buf (Elt F) ((c : Thread nD τ).loc b))

/-- Window `w`'s block at point `t`, of the arrays' contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, when the body leaves the block in place. -/
theorem before_0 {c : Dev nD} (dat : WDat F c) (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : WDat F c) (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : WDat F c) (hA : dat.A 2 = V c (Pipeline.arrRef spec1 2)) (hafter : ∀ t, dat.after 2 t = iblk V c 2 t)
    (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : WDat F c) (hA : dat.A 3 = V c (Pipeline.arrRef spec1 3)) (hafter : ∀ t, dat.after 3 t = iblk V c 3 t)
    (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : WDat F c) (hA : dat.A 4 = V c (Pipeline.arrRef spec1 4)) (hafter : ∀ t, dat.after 4 t = iblk V c 4 t)
    (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## When the second output is idle -/

/-- Before the last point the loss is neither stored nor written back. -/
theorem idle_early : ∀ t : Fin cfg1.N, t.val < 49 → cfg1.idle 6 (grid1.coords t) = true := by decide +kernel
theorem noFlush_early : ∀ t : Fin cfg1.N, t.val < 49 → (cfg1.win 6).flush t = false := by decide +kernel
/-- At the last point it is stored. -/
theorem live_last : ∀ t : Fin cfg1.N, ¬t.val < 49 → cfg1.idle 6 (grid1.coords t) = false := by decide +kernel

/-! ## What the scratch holds -/

/-- The first point. -/
def t₀ : Fin cfg1.N := ⟨0, by have : cfg1.N = 50 := N_1; omega⟩

/-- The transposed sum of the first two operands. -/
def combT (c : Dev nD) : Vec F S128x2048 .f32 := k1_pay1 (iblk V c 0 t₀) (iblk V c 1 t₀)

/-- The running sums of exponentials before point `n`. -/
def sums (c : Dev nD) : ℕ → Vec F S8x2048 .f32
  | 0 => k1_pay2
  | n + 1 => if h : n < cfg1.N then
      if n < 49 then k1_pay7 (iblk V c 2 ⟨n, h⟩) (combT V c) (sums c n) k1_pay3
      else k1_pay8 (grid1.coords ⟨n, h⟩) (iblk V c 2 ⟨n, h⟩) (combT V c) (sums c n) k1_pay3
    else sums c n

theorem sums_early (c : Dev nD) (t : Fin cfg1.N) (h : t.val < 49) :
    sums V c (t.val + 1) = k1_pay7 (iblk V c 2 t) (combT V c) (sums V c t.val) k1_pay3 := by
  rw [sums, dif_pos t.isLt, if_pos h]
theorem sums_last (c : Dev nD) (t : Fin cfg1.N) (h : ¬t.val < 49) :
    sums V c (t.val + 1) = k1_pay8 (grid1.coords t) (iblk V c 2 t) (combT V c) (sums V c t.val) k1_pay3 := by
  rw [sums, dif_pos t.isLt, if_neg h]

/-- The mean loss, from the sums after the sweep. -/
def lossOf (c : Dev nD) (t : Fin cfg1.N) : Vec F S1x1 .f32 :=
  fun _ => k1_pay9 (row0 (sums V c (t.val + 1))) (combT V c) (iblk V c 3 t) (iblk V c 4 t)

abbrev scM0 : Memref sig .tc .vmem S128x2048 .f32 := Memref.whole cc1_scratch0
abbrev scM1 : Memref sig .tc .vmem S8x2048 .f32 := Memref.whole cc1_scratch1
abbrev scM2 : Memref sig .tc .vmem S8x2000 .f32 := Memref.whole cc1_scratch2

/-- The scratch at anything. -/
abbrev scratch (c : Dev nD) : sProp 𝕄 := Pipeline.scopedRest spec1 c

/-- The three scratch buffers, each at something. -/
theorem scratch_eq (c : Dev nD) :
    (scratch c : sProp 𝕄)
      = iprop((∃ d, owns (c : Thread nD τ) scM0 fullShare d) ∗ (∃ d, owns (c : Thread nD τ) scM1 fullShare d) ∗ (∃ d, owns (c : Thread nD τ) scM2 fullShare d)) := by
  unfold scratch; rw [scopedRest1_eq]; simp only [scM0, scM1, scM2, owns_whole]; try rfl

/-- The scratch before point `n`: anything at first, then the transposed sum, the running sums and the ones. -/
def PhiS (c : Dev nD) : ℕ → sProp 𝕄
  | 0 => scratch c
  | n + 1 => iprop(owns (c : Thread nD τ) scM0 fullShare (combT V c) ∗ owns (c : Thread nD τ) scM1 fullShare (sums V c (n + 1))
      ∗ owns (c : Thread nD τ) scM2 fullShare (k1_pay3 (F := F)))

theorem PhiS_succ (c : Dev nD) (n : ℕ) : PhiS V c (n + 1)
    = iprop(owns (c : Thread nD τ) scM0 fullShare (combT V c) ∗ owns (c : Thread nD τ) scM1 fullShare (sums V c (n + 1))
      ∗ owns (c : Thread nD τ) scM2 fullShare (k1_pay3 (F := F))) := rfl

theorem PhiS_pos (c : Dev nD) (n : ℕ) (hz : n ≠ 0) : PhiS V c n
    = iprop(owns (c : Thread nD τ) scM0 fullShare (combT V c) ∗ owns (c : Thread nD τ) scM1 fullShare (sums V c n)
      ∗ owns (c : Thread nD τ) scM2 fullShare (k1_pay3 (F := F))) := by
  cases n with
  | zero => exact absurd rfl hz
  | succ n => rfl

/-! ## The pipeline's proof data -/

/-- The windows after each point: the inputs at their blocks, the first output at the block's product, the second at the
    loss of the sums so far. -/
def dats (_ : Fin 1) (c : Dev nD) : WDat F c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k1_pay5 (iblk V c 2 t) (combT V c)
    | ⟨6, _⟩ => lossOf V c t
  Φ t := PhiS V c t.val
  q _ := fullShare
  owed _ := 0
  recorded _ := Set.univ

theorem A_eq (c : Dev nD) (w : Fin cfg1.W) : (dats V 0 c).A w = V c (Pipeline.arrRef spec1 w) := by
  dsimp only [dats]
theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
theorem after_3 (c : Dev nD) (t : Fin cfg1.N) : (dats V 0 c).after 3 t = iblk V c 3 t := by dsimp only [dats]
theorem after_4 (c : Dev nD) (t : Fin cfg1.N) : (dats V 0 c).after 4 t = iblk V c 4 t := by dsimp only [dats]
theorem after_5 (c : Dev nD) (t : Fin cfg1.N) : (dats V 0 c).after 5 t = k1_pay5 (iblk V c 2 t) (combT V c) := by dsimp only [dats]
theorem after_6 (c : Dev nD) (t : Fin cfg1.N) : (dats V 0 c).after 6 t = lossOf V c t := by dsimp only [dats]

/-- The first two windows' blocks are the same at every point. -/
theorem iblk_0 (c : Dev nD) (t : Fin cfg1.N) (h : t.val = 0) : t = t₀ := Fin.ext h

/-! ## The body at each point -/

/-- What the body is called with at point `t`, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d))
    ∗ (∃ d, owns (c : Thread nD τ) (st1_4 t) fullShare ((dats V 0 c).before 4 t d))
    ∗ (∃ d, owns (c : Thread nD τ) (st1_5 t) fullShare ((dats V 0 c).before 5 t d))
    ∗ (∃ d, owns (c : Thread nD τ) (st1_6 t) fullShare ((dats V 0 c).before 6 t d)))

/-- and what it returns. -/
def bodyPost (c : Dev nD) (t : Fin cfg1.N) : sProp 𝕄 :=
  iprop((dats V 0 c).Φ t.succ ∗ (dats V 0 c).owesAt none t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t)

theorem leaves_0 (c : Dev nD) (t : Fin cfg1.N) : (dats V 0 c).leavesExact 0 t = owns (c : Thread nD τ) (st1_0 t) fullShare (iblk V c 0 t) := by
  unfold Dat.leavesExact; rw [show cfg1.idle 0 (grid1.coords t) = false from rfl, after_0]
theorem leaves_1 (c : Dev nD) (t : Fin cfg1.N) : (dats V 0 c).leavesExact 1 t = owns (c : Thread nD τ) (st1_1 t) fullShare (iblk V c 1 t) := by
  unfold Dat.leavesExact; rw [show cfg1.idle 1 (grid1.coords t) = false from rfl, after_1]
theorem leaves_2 (c : Dev nD) (t : Fin cfg1.N) : (dats V 0 c).leavesExact 2 t = owns (c : Thread nD τ) (st1_2 t) fullShare (iblk V c 2 t) := by
  unfold Dat.leavesExact; rw [show cfg1.idle 2 (grid1.coords t) = false from rfl, after_2]
theorem leaves_3 (c : Dev nD) (t : Fin cfg1.N) : (dats V 0 c).leavesExact 3 t = owns (c : Thread nD τ) (st1_3 t) fullShare (iblk V c 3 t) := by
  unfold Dat.leavesExact; rw [show cfg1.idle 3 (grid1.coords t) = false from rfl, after_3]
theorem leaves_4 (c : Dev nD) (t : Fin cfg1.N) : (dats V 0 c).leavesExact 4 t = owns (c : Thread nD τ) (st1_4 t) fullShare (iblk V c 4 t) := by
  unfold Dat.leavesExact; rw [show cfg1.idle 4 (grid1.coords t) = false from rfl, after_4]
theorem leaves_5 (c : Dev nD) (t : Fin cfg1.N) : (dats V 0 c).leavesExact 5 t = owns (c : Thread nD τ) (st1_5 t) fullShare (k1_pay5 (iblk V c 2 t) (combT V c)) := by
  unfold Dat.leavesExact; rw [show cfg1.idle 5 (grid1.coords t) = false from rfl, after_5]
theorem leaves_6 (c : Dev nD) (t : Fin cfg1.N) (h : ¬t.val < 49) : (dats V 0 c).leavesExact 6 t = owns (c : Thread nD τ) (st1_6 t) fullShare (lossOf V c t) := by
  unfold Dat.leavesExact; rw [live_last t h, after_6]

set_option maxHeartbeats 1600000 in
/-- The body at any point takes what it is called with to what it returns. -/
theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0 V (dats V 0 c) (A_eq V c 0) (after_0 V c), before_1 V (dats V 0 c) (A_eq V c 1) (after_1 V c),
    before_2 V (dats V 0 c) (A_eq V c 2) (after_2 V c), before_3 V (dats V 0 c) (A_eq V c 3) (after_3 V c), before_4 V (dats V 0 c) (A_eq V c 4) (after_4 V c)]
  rw [show (dats V 0 c).owesAt none t.succ = (dats V 0 c).owesAt none t.castSucc from rfl]
  rw [show (dats V 0 c).Φ t.succ = PhiS V c (t.val + 1) from rfl, show (dats V 0 c).Φ t.castSucc = PhiS V c t.val from rfl, PhiS_succ]
  rw [leaves_0, leaves_1, leaves_2, leaves_3, leaves_4, leaves_5]
  have hN : t.val < 50 := lt_of_lt_of_eq t.isLt (show cfg1.N = 50 from N_1)
  by_cases h1 : t.val < 49
  · rw [Dat.leavesExact_idle (dats V 0 c) 6 t (idle_early t h1) (noFlush_early t h1), sums_early V c t h1]
    by_cases h0 : t.val = 0
    · obtain rfl : t = t₀ := Fin.ext h0
      rw [show PhiS V c (t₀ : Fin cfg1.N).val = scratch c from rfl, scratch_eq, show sums V c (t₀ : Fin cfg1.N).val = k1_pay2 from rfl]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩⟩
      iapply (body_first c (grid1.coords t₀) _ _ _ _ _ _ _ _ _ _ _ _ _ _ _ _ _ _ _ _ (iblk V c 0 t₀) (iblk V c 1 t₀) (iblk V c 2 t₀) (iblk V c 3 t₀) (iblk V c 4 t₀)
        ((isFirst_iff t₀).mpr rfl) ((isEarly_iff t₀).mpr h1) (fun h => by have := (isLast_iff t₀).mp h; omega) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_pos V c _ h0]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩⟩
      iapply (body_mid c (grid1.coords t) _ _ _ _ _ _ _ _ _ _ _ _ _ _ _ _ _ _ _ _ (iblk V c 0 t) (iblk V c 1 t) (iblk V c 2 t) (iblk V c 3 t) (iblk V c 4 t)
        (combT V c) (sums V c t.val) k1_pay3
        (fun h => by have := (isFirst_iff t).mp h; omega) ((isEarly_iff t).mpr h1) (fun h => by have := (isLast_iff t).mp h; omega) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h0 : t.val ≠ 0 := by omega
    rw [PhiS_pos V c _ h0, leaves_6 V c t h1]; unfold lossOf; rw [sums_last V c t h1]
    iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩⟩
    iapply (body_last c (grid1.coords t) _ _ _ _ _ _ _ _ _ _ _ _ _ _ _ _ _ _ _ _ (iblk V c 0 t) (iblk V c 1 t) (iblk V c 2 t) (iblk V c 3 t) (iblk V c 4 t)
      (combT V c) (sums V c t.val) k1_pay3
      (fun h => by have := (isFirst_iff t).mp h; omega) (fun h => h1 ((isEarly_iff t).mp h)) ((isLast_iff t).mpr (by omega)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2]
    · isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row is the body at the point's buffers. -/
theorem defs₀_row (t : Fin cfg1.N) :
    defs₀ (F := F) .tc cfg1.body (cfg1.bodyArgs t (cfg1.slots t)) = bodyAt1 t := by
  unfold defs₀; rfl

/-- The body's obligation, at every point. -/
theorem body_obligation (c : Dev nD) : BodyObligation (dats (F := F) V 0 c) (defs₀ (F := F)) 𝒱₀ none Set.univ := fun t => by
  rw [bigSep_W1, bigSep_W1, defs₀_row]
  exact triple_restated (sound_body V c t) rfl .rfl fun _ => .rfl

/-- The invariant before the first point is the scratch at anything, -/
theorem hin (c : Dev nD) : scratch c ⊢ (dats V 0 c).Φ 0 := by
  rw [show (dats V 0 c).Φ 0 = scratch c from rfl]

/-- and the invariant after the last gives that back. -/
theorem hout (c : Dev nD) : (dats V 0 c).Φ (Fin.last cfg1.N) ⊢ scratch c := by
  have hN : cfg1.N = 50 := N_1
  rw [show (dats V 0 c).Φ (Fin.last cfg1.N) = PhiS V c cfg1.N from rfl, PhiS_pos V c _ (by omega), scratch_eq]
  iintro ⟨HS0, HS1, HS2⟩
  isplitl [HS0]
  · iexists _; iexact HS0
  isplitl [HS1]
  · iexists _; iexact HS1
  iexists _; iexact HS2

end Cert.KernelIdeal.Hand

end
-- ==== Proof.KernelIdeal.Main.lean ====
/-
  The whole program: its host operations, the lookup launch and the projection kernel in order, and what every buffer
  holds at the end.
-/
module

public import proofs.«01_k».proof.Proof.KernelIdeal.Lookup
public import proofs.«01_k».proof.Proof.KernelIdeal.Sweep
public import Idealize.ShloMosaic.Lib.Pipeline.FrameTail
public import Idealize.ShloMosaic.Lib.Pipeline.Regions
public import Idealize.ShloMosaic.Adequacy

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The host operations -/

/-- Before the lookup: the index lists flattened, the output table transposed. -/
def opsA : List (HloOp τ sig (Elt F)) :=
  [StableHlo.reshape main_arg0 main_v0 (rfl : (.i32 : EltTy) = .i32) shapeCasts_S1x2048_S2048,
   StableHlo.reshape main_arg1 main_v1 (rfl : (.i32 : EltTy) = .i32) shapeCasts_S1x2048_S2048,
   StableHlo.unary main_arg4 main_v2 ((transpose S100000x128 [1, 0] · transposes_S128x100000_S100000x128_1_0) : (⟨S128x100000, .f32⟩ : BufTy).Contents (Elt F) → (⟨S100000x128, .f32⟩ : BufTy).Contents (Elt F))]

/-- Between the lookup and the projection: the bias at the targets. -/
def opsB : List (HloOp τ sig (Elt F)) :=
  [StableHlo.TRef.nullary main_call0.c (constantI S_ 32 0#32),
   StableHlo.TRef.unary main_call0.c main_call0.v0 (broadcastInDim S2048 ![] bcast_S_S2048),
   StableHlo.TRef.binary (.of main_v1) main_call0.v0 main_call0.v1 (cmpi .slt),
   StableHlo.TRef.nullary main_call0.c_0 (constantI S_ 32 100000#32),
   StableHlo.TRef.unary main_call0.c_0 main_call0.v2 (broadcastInDim S2048 ![] bcast_S_S2048),
   StableHlo.TRef.binary (.of main_v1) main_call0.v2 main_call0.v3 addi,
   StableHlo.TRef.ternary main_call0.v1 main_call0.v3 (.of main_v1) main_call0.call0.v0 select,
   StableHlo.TRef.unary main_call0.call0.v0 main_call0.v5 (broadcastInDim S2048x1 ![0] bcast_S2048_S2048x1_0),
   StableHlo.TRef.nullary main_call0.c_1 (constantI S1 32 99999#32),
   StableHlo.TRef.nullary main_call0.c_2 (constantI S_ 32 0#32),
   StableHlo.TRef.unary main_call0.c_2 main_call0.v6 (broadcastInDim S2048x1 ![] bcast_S_S2048x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S2048x1 ![0, 1] bcast_S1x1_S2048x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S2048x1_S2048_d1 h_S_),
   StableHlo.TRef.binary (.of main_arg5) main_call0.v5 main_call0.v13 (fun x i => Host.gather gather_S100000_S2048x1_S2048_n_0_n_n_0_1_1 x i),
   StableHlo.TRef.nullary main_call0.cst (constant S_ .f32 0x7FC00000#32),
   StableHlo.TRef.unary main_call0.cst main_call0.v14 (broadcastInDim S2048 ![] bcast_S_S2048),
   StableHlo.TRef.ternary main_call0.v12 main_call0.v13 main_call0.v14 main_call0.v15 select,
   StableHlo.reshape main_v4 main_v5 (rfl : (.f32 : EltTy) = .f32) shapeCasts_S2048_S1x2048]

/-- After the projection: the logits' axes put in order, the loss read out. -/
def opsC : List (HloOp τ sig (Elt F)) :=
  [StableHlo.unary main_v6_0 main_v7 ((transpose S1x2048x100000 [0, 2, 1] · transposes_S1x100000x2048_S1x2048x100000_0_2_1) : (⟨S1x100000x2048, .f32⟩ : BufTy).Contents (Elt F) → (⟨S1x2048x100000, .f32⟩ : BufTy).Contents (Elt F)),
   StableHlo.reshape main_v6_1 main_v8 (rfl : (.f32 : EltTy) = .f32) shapeCasts_S1x1_S_]

/-- The projection kernel's call. -/
def region : Prog (TpuEff nD τ sig (Elt F) (ΛP (F := F)) .tc) PUnit := .op (.customCall (Pipeline.entry 0) ()) fun _ => .ret ⟨⟩

theorem main_eq (d : Dev nD) : main (F := F) d = (StableHlo.seq opsA >>= fun _ => (sc (F := F)).run d 0 >>= fun _ =>
    StableHlo.seq opsB >>= fun _ => SparseCore.liftProg region >>= fun _ => StableHlo.seq opsC >>= fun _ => pure ⟨⟩) := by
  rfl

theorem opsA_sub : ∀ op ∈ opsA (F := F), op.bufs ⊆ Pipeline.ucRefs τ sig := by
  intro op hop
  refine Pipeline.sub_ucRefs op ?_
  revert op
  refine List.forall_iff_forall_mem.mp ?_
  exact ⟨StableHlo.reshape_bufs_sub .., StableHlo.reshape_bufs_sub .., StableHlo.unary_bufs_sub ..⟩

theorem opsC_sub : ∀ op ∈ opsC (F := F), op.bufs ⊆ Pipeline.ucRefs τ sig := by
  intro op hop
  refine Pipeline.sub_ucRefs op ?_
  revert op
  refine List.forall_iff_forall_mem.mp ?_
  exact ⟨StableHlo.unary_bufs_sub .., StableHlo.reshape_bufs_sub ..⟩

theorem opsB_sub : ∀ op ∈ opsB (F := F), op.bufs ⊆ Pipeline.ucRefs τ sig := by
  intro op hop
  refine Pipeline.sub_ucRefs op ?_
  revert op
  refine List.forall_iff_forall_mem.mp ?_
  exact ⟨StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.binary_bufs_sub .., StableHlo.nullary_bufs_sub .., StableHlo.binary_bufs_sub .., StableHlo.binary_bufs_sub .., StableHlo.nullary_bufs_sub ..,
    StableHlo.unary_bufs_sub .., StableHlo.ternary_bufs_sub .., StableHlo.reshape_bufs_sub ..⟩

theorem opsA_fresh : ∀ op ∈ opsA (F := F), op.fresh = ∅ := by intro _ h; (repeat (cases h with | head => rfl | tail _ h => ?_)); exact nomatch h
theorem opsB_fresh : ∀ op ∈ opsB (F := F), op.fresh = ∅ := by intro _ h; (repeat (cases h with | head => rfl | tail _ h => ?_)); exact nomatch h
theorem opsC_fresh : ∀ op ∈ opsC (F := F), op.fresh = ∅ := by intro _ h; (repeat (cases h with | head => rfl | tail _ h => ?_)); exact nomatch h

/-! ## The lookup's buffers among the device's -/

/-- The lookup's six buffers. -/
def sixRefs : Finset (DevRef τ sig) :=
  {Proc.devRef .tc main_v0, Proc.devRef .tc main_v1, Proc.devRef .tc main_arg2, Proc.devRef .tc main_v2, Proc.devRef .tc main_v3_0, Proc.devRef .tc main_v3_1}

theorem sixRefs_sub : sixRefs ⊆ Pipeline.ucRefs τ sig := by
  intro b hb
  simp only [sixRefs, Finset.mem_insert, Finset.mem_singleton] at hb
  rcases hb with rfl | rfl | rfl | rfl | rfl | rfl <;> exact Pipeline.devRef_mem_ucRefs (by decide)

/-- What the lookup starts from, when the device's buffers hold `V`. -/
def insOf (V : Valuation τ sig (Elt F)) : Ins F where
  tA := V (Proc.devRef .tc main_arg2)
  tB := V (Proc.devRef .tc main_v2)
  iA := V (Proc.devRef .tc main_v0)
  iB := V (Proc.devRef .tc main_v1)
  f := V (Proc.devRef .tc main_v3_0)
  g := V (Proc.devRef .tc main_v3_1)

theorem held_six (d : Dev nD) (V : Valuation τ sig (Elt F)) :
    (StableHlo.held (d.tc : Thread nD τ) sixRefs V : sProp 𝕄) = whole (insOf V) d (insOf V).f (insOf V).g := by
  unfold StableHlo.held sixRefs whole insOf
  rw [SparseCore.bigSep_insert' (by decide), SparseCore.bigSep_insert' (by decide), SparseCore.bigSep_insert' (by decide),
    SparseCore.bigSep_insert' (by decide), SparseCore.bigSep_insert' (by decide), bigSep_singleton]

/-- The device's buffers after the lookup, from `V`. -/
def afterLookup (V : Valuation τ sig (Elt F)) : Valuation τ sig (Elt F) :=
  Function.update (Function.update V (Proc.devRef .tc main_v3_0) (gRows (insOf V).tA (insOf V).iA : S2048x128.Idx → Elt F .f32))
    (Proc.devRef .tc main_v3_1) (gRows (insOf V).tB (insOf V).iB : S2048x128.Idx → Elt F .f32)

theorem afterLookup_of_ne (V : Valuation τ sig (Elt F)) {b : DevRef τ sig} (h0 : b ≠ Proc.devRef .tc main_v3_0) (h1 : b ≠ Proc.devRef .tc main_v3_1) :
    afterLookup V b = V b := by
  unfold afterLookup; rw [Function.update_of_ne h1, Function.update_of_ne h0]

theorem afterLookup_v3_0 (V : Valuation τ sig (Elt F)) : afterLookup V (Proc.devRef .tc main_v3_0) = gRows (insOf V).tA (insOf V).iA := by
  unfold afterLookup; rw [Function.update_of_ne (by decide), Function.update_self]

theorem afterLookup_v3_1 (V : Valuation τ sig (Elt F)) : afterLookup V (Proc.devRef .tc main_v3_1) = gRows (insOf V).tB (insOf V).iB := by
  unfold afterLookup; rw [Function.update_self]

theorem held_six_after (d : Dev nD) (V : Valuation τ sig (Elt F)) :
    (StableHlo.held (d.tc : Thread nD τ) sixRefs (afterLookup V) : sProp 𝕄)
      = whole (insOf V) d (gRows (insOf V).tA (insOf V).iA) (gRows (insOf V).tB (insOf V).iB) := by
  rw [held_six]
  unfold whole insOf
  dsimp only
  rw [afterLookup_v3_0, afterLookup_v3_1, afterLookup_of_ne V (b := Proc.devRef .tc main_arg2) (by decide) (by decide),
    afterLookup_of_ne V (b := Proc.devRef .tc main_v2) (by decide) (by decide), afterLookup_of_ne V (b := Proc.devRef .tc main_v0) (by decide) (by decide),
    afterLookup_of_ne V (b := Proc.devRef .tc main_v1) (by decide) (by decide)]
  rfl

theorem mem_v3_0 : (Proc.devRef .tc main_v3_0 : DevRef τ sig) ∈ sixRefs := by decide
theorem mem_v3_1 : (Proc.devRef .tc main_v3_1 : DevRef τ sig) ∈ sixRefs := by decide

/-- The lookup's buffers after it and the others as they were are all the buffers after it. -/
theorem held_after_join (d : Dev nD) (V : Valuation τ sig (Elt F)) :
    (iprop(StableHlo.held (d.tc : Thread nD τ) sixRefs (afterLookup V) ∗ StableHlo.held (d.tc : Thread nD τ) (Pipeline.ucRefs τ sig \ sixRefs) V) : sProp 𝕄)
      = StableHlo.held (d.tc : Thread nD τ) (Pipeline.ucRefs τ sig) (afterLookup V) := by
  have h : (StableHlo.held (d.tc : Thread nD τ) (Pipeline.ucRefs τ sig \ sixRefs) V : sProp 𝕄)
      = StableHlo.held (d.tc : Thread nD τ) (Pipeline.ucRefs τ sig \ sixRefs) (afterLookup V) := by
    refine StableHlo.held_congr _ fun b hb => ?_
    have hb' := (Finset.mem_sdiff.mp hb).2
    exact (afterLookup_of_ne V (b := b) (fun e => hb' (e ▸ mem_v3_0)) (fun e => hb' (e ▸ mem_v3_1))).symm
  rw [StableHlo.held_sub_split (d.tc : Thread nD τ) sixRefs_sub (afterLookup V), h]

/-! ## The projection's call -/

/-- Where the projection's ghost state lives. -/
def EP : Emb UP 𝕄 := (Emb.inl).trans embR
instance : (EP (F := F)).LandsIn upEmb := by unfold EP; infer_instance

/-- The buffers by reference. -/
abbrev atRef (V : Dev nD → Valuation τ sig (Elt F)) : (c : Dev nD) → (b : Ref sig .tc) → Buf (Elt F) ((c.tc : Thread nD τ).loc b) :=
  fun c b => V c (Proc.devRef .tc b)

/-- The device's buffers after the projection, from `V`. -/
def afterProj (V : Dev nD → Valuation τ sig (Elt F)) (c : Dev nD) : Valuation τ sig (Elt F) :=
  Pipeline.afterRegion (dats (atRef V) 0 c) (V c)

/-- The projection's launch facts, at the printed configurations. -/
theorem kitP : Pipeline.PLaunchFacts (nD := nD) (τ := τ) (pcfgs (F := F)) 0 := launch1.toP

set_option backward.isDefEq.respectTransparency.types false in
/-- The projection's call as a region: from the device's buffers at `V` to them after the projection. -/
def seg (V : Dev nD → Valuation τ sig (Elt F)) :
    Pipeline.RegionSeg pcfgs (fun p => (cfgs p).toPCfg_adm) (dats (F := F) (atRef V)) none (defs₀ (F := F)) 𝒱₀ (K (F := F)).L (K (F := F)).lev 0 where
  win := (kitP (F := F)).win.to₀
  block_pos := (kitP (F := F)).block_pos
  stage_whole := (kitP (F := F)).stage_whole
  K := PEmpty
  osem := fun k => k.elim
  ho := Pipeline.OwnSemFacts.none _
  hbody := fun c => (body_obligation (atRef V) c).loose
  hwaits := Pipeline.hwaits_of_owed_zero pcfgs _ (dats (F := F) (atRef V)) none (K (F := F)).L (K (F := F)).lev 0 fun _ _ => rfl
  pre := fun c => iprop(StableHlo.held (c.tc : Thread nD τ) (Pipeline.ucRefs τ sig) (V c) ∗ ∃ W, owes (c.tc : Thread nD τ) (0 : CellTallies nD τ sig (HIx 1)) W)
  post := fun c => iprop(StableHlo.held (c.tc : Thread nD τ) (Pipeline.ucRefs τ sig) (afterProj V c) ∗ ∃ W, owes (c.tc : Thread nD τ) (0 : CellTallies nD τ sig (HIx 1)) W)
  X := fun c => iprop(emp)
  Y := fun c => iprop(emp)
  Z := fun c => Pipeline.unscopedRest spec1 c (fun b => V c (Proc.devRef .tc b))
  hentry := fun c => by
    rw [Pipeline.ownSems0_none,
      show StableHlo.held (c.tc : Thread nD τ) (Pipeline.ucRefs τ sig) (V c) = unscopedBufs c (fun b => V c (Proc.devRef .tc b))
        from (Pipeline.unscopedBufs_held (Ix := HIx 1) (Name := ℕ) (U := UU) (Lvl := ℕ) c (V c)).symm]
    have hsplit := Pipeline.arrays_of_unscopedBufs (p := 0) pcfgs (fun p => (cfgs p).toPCfg_adm) (dats (F := F) (atRef V)) (kitP (F := F)).win (kitP (F := F)).arr_whole c (dats (F := F) (atRef V) 0 c |>.share_full fun _ => rfl)
      (fun b => V c (Proc.devRef .tc b)) (fun w => A_eq (atRef V) c w)
    iintro ⟨⟨Hub, %W, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      iexists W; isplitr; · ipureintro; exact fun _ _ => Or.inl trivial
      iexact HO
    isplitr; · iempintro
    iexact Hrest
  hin := fun c => (show _ ⊢ scratch c from by
    iintro ⟨-, -, Hr⟩; iexact Hr).trans (hin (atRef V) c)
  hout := fun c => (hout (atRef V) c).trans (by
    rw [Pipeline.ownSems0_none]
    iintro Hr
    isplitr; · iempintro
    isplitr; · iempintro
    iexact Hr)
  hexit := fun c => by
    have hjoin := Pipeline.unscopedBufs_of_arrays (p := 0) pcfgs (fun p => (cfgs p).toPCfg_adm) (Ix := HIx 1) (Name := ℕ) (U := UU) (Lvl := ℕ)
      (kitP (F := F)).win (kitP (F := F)).arr_whole c (dats (F := F) (atRef V)) (dats (F := F) (atRef V) 0 c |>.share_full fun _ => rfl)
      (fun b => V c (Proc.devRef .tc b)) (fun b => afterProj V c (Proc.devRef .tc b)) ((dats (atRef V) 0 c).arrAt · cfg1.N)
      (fun w => (Pipeline.afterRegion_arr (dats (atRef V) 0 c) (V c) launch1.win.arr_inj w).symm)
      (fun b hb => Pipeline.afterRegion_of_not_arr (dats (atRef V) 0 c) (V c)
        fun w h => hb (h ▸ Finset.mem_image.mpr ⟨w, Finset.mem_univ _, rfl⟩))
    rw [show StableHlo.held (c.tc : Thread nD τ) (Pipeline.ucRefs τ sig) (afterProj V c) = unscopedBufs c (fun b => afterProj V c (Proc.devRef .tc b))
        from (Pipeline.unscopedBufs_held (Ix := HIx 1) (Name := ℕ) (U := UU) (Lvl := ℕ) c (afterProj V c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem hseg_pre (V : Dev nD → Valuation τ sig (Elt F)) (c : Dev nD) : (seg V).pre c
    = iprop(StableHlo.held (c.tc : Thread nD τ) (Pipeline.ucRefs τ sig) (V c) ∗ ∃ W, owes (c.tc : Thread nD τ) (0 : CellTallies nD τ sig (HIx 1)) W) := rfl
theorem hseg_post (V : Dev nD → Valuation τ sig (Elt F)) (c : Dev nD) : (seg V).post c
    = iprop(StableHlo.held (c.tc : Thread nD τ) (Pipeline.ucRefs τ sig) (afterProj V c) ∗ ∃ W, owes (c.tc : Thread nD τ) (0 : CellTallies nD τ sig (HIx 1)) W) := rfl

/-- The projection's ghost state on one device. -/
abbrev G (c : Dev nD) : sProp 𝕄 :=
  iprop(Pipeline.cellsGhost (nD := nD) (τ := τ) (Pipeline.pin (pcfgs (F := F)) fun p => (cfgs p).toPCfg_adm) (EP (F := F)) 0 c
    ∗ Pipeline.toksInit (nD := nD) (τ := τ) (Pipeline.pin (pcfgs (F := F)) fun p => (cfgs p).toPCfg_adm) (EP (F := F)) 0 c)

set_option backward.isDefEq.respectTransparency.types false in
/-- The projection's call run by the core. -/
theorem wp_region [∀ e, Nonempty (Elt F e)] (V : Dev nD → Valuation τ sig (Elt F)) (c : Dev nD) (Q : PUnit → sProp 𝕄) :
    iprop((iprop(boundary (c.tc : Thread nD τ) ∗ (seg V).post c) -∗ Q ⟨⟩) ∗ boundary (c.tc : Thread nD τ) ∗ (seg V).pre c
        ∗ levAts (K (F := F)).L (K (F := F)).lev ∗ G c)
      ⊢ wp frame (wpE ((K (F := F)).defs (D (F := F))) 𝒱 (c.tc : Thread nD τ) none) Set.univ (SparseCore.liftProg region) Q := by
  have h := Pipeline.RegionSeg.wp pcfgs (fun p => (cfgs p).toPCfg_adm) (dats (F := F) (atRef V)) none cellOf_inj (EP (F := F)) (defs₀ (F := F)) 𝒱₀
    (K (F := F)).L (K (F := F)).lev (seg V) c none (fun _ h => nomatch h) (fun _ => .ret ⟨⟩) Q
  iintro ⟨Hk, Hb, Hpre, Hl, Hg⟩
  iapply ((K (F := F)).wp_liftProg (D (F := F)) 𝒱 (c.tc : Thread nD τ) Set.univ none region Q)
  unfold region
  iapply h
  isplitl [Hk]
  · iintro H
    rw [wp_ret]; imodintro
    iapply Hk; iexact H
  isplitl [Hb]; · iexact Hb
  isplitl [Hpre]; · iexact Hpre
  isplitl [Hl]; · iexact Hl
  iexact Hg

/-! ## The launch -/

/-- The ghost state at the start: the handshakes' and the projection's. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem hu₀ (I : Dev nD → Ins F) : (ownU (u₀ (F := F)) : sProp 𝕄)
    ⊢ |={Set.univ}=> iprop(BI.own (EH (initOf (K (F := F)).hsCells (K (F := F)).hsToks)) ∗ (bigSep Finset.univ fun c : Dev nD => G (F := F) c)
        ∗ bigSep Finset.univ fun thr : Thread nD τ => bigSep Finset.univ fun q : Fin 1 => (P I).x q thr) := by
  have hf : (BI.own (((Emb.inl : Emb UP (UP × Counters)).trans embR : Emb UP 𝕄) (initOf (Pipeline.cells cfgs cellOf_inj) (Pipeline.launchToks cfgs cellOf_inj))) : sProp 𝕄)
      ⊢ iprop(|==> ((bigSep Finset.univ fun c : Dev nD => bigSep Finset.univ fun p : Fin 1 =>
            Pipeline.cellsGhost (nD := nD) (τ := τ) (Pipeline.pin (pcfgs (F := F)) fun p => (cfgs p).toPCfg_adm) (EP (F := F)) p c)
        ∗ (bigSep Finset.univ fun c : Dev nD => bigSep Finset.univ fun p : Fin 1 =>
            Pipeline.toksInit (nD := nD) (τ := τ) (Pipeline.pin (pcfgs (F := F)) fun p => (cfgs p).toPCfg_adm) (EP (F := F)) p c))) :=
    Pipeline.fund_ghost (nD := nD) (τ := τ) (Pipeline.pin (pcfgs (F := F)) fun p => (cfgs p).toPCfg_adm) (EP (F := F)) cellOf_inj
  have hG : (bigSep Finset.univ fun c : Dev nD => G (F := F) c)
      = iprop((bigSep Finset.univ fun c : Dev nD => bigSep Finset.univ fun p : Fin 1 =>
            Pipeline.cellsGhost (nD := nD) (τ := τ) (Pipeline.pin (pcfgs (F := F)) fun p => (cfgs p).toPCfg_adm) (EP (F := F)) p c)
        ∗ (bigSep Finset.univ fun c : Dev nD => bigSep Finset.univ fun p : Fin 1 =>
            Pipeline.toksInit (nD := nD) (τ := τ) (Pipeline.pin (pcfgs (F := F)) fun p => (cfgs p).toPCfg_adm) (EP (F := F)) p c)) := by
    rw [← bigSep_sep']
    exact bigSep_congr fun c _ => by
      rw [bigSep_univ_of_subsingleton (0 : Fin 1), bigSep_univ_of_subsingleton (0 : Fin 1)]
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj) : UP) (1 : Counters)) $$ HR
  icases H with ⟨HP, -⟩
  imod hf $$ HP with HG
  imodintro
  isplitl [HH]; · iexact HH
  isplitl [HG]; · rw [hG]; iexact HG
  rw [show (bigSep Finset.univ fun thr : Thread nD τ => bigSep Finset.univ fun q : Fin 1 => (P (F := F) I).x q thr) = bigSep Finset.univ fun _ => iprop(emp) from
    bigSep_congr fun _ _ => bigSep_univ_of_subsingleton (0 : Fin 1), bigSep_emp']
  iempintro

/-! ## @main on the TensorCore -/

variable (m : (ℓ : Loc nD τ sig) → Buf (Elt F) ℓ) (ρ : Dev nD → PrngReg)

/-- The device's buffers before the lookup, -/
def V1 (d : Dev nD) : Valuation τ sig (Elt F) := StableHlo.after opsA (StableHlo.launchContents m d)
/-- after it, -/
def V2 (d : Dev nD) : Valuation τ sig (Elt F) := afterLookup (V1 m d)
/-- before the projection, -/
def V3 (d : Dev nD) : Valuation τ sig (Elt F) := StableHlo.after opsB (V2 m d)
/-- after it, -/
def V4 (d : Dev nD) : Valuation τ sig (Elt F) := afterProj (V3 m) d
/-- and at the end. -/
def V5 (d : Dev nD) : Valuation τ sig (Elt F) := StableHlo.after opsC (V4 m d)
/-- What the lookup starts from. -/
def Im (d : Dev nD) : Ins F := insOf (V1 m d)

abbrev FIN (d : Dev nD) : sProp 𝕄 := StableHlo.held (d.tc : Thread nD τ) (Pipeline.ucRefs τ sig) (V5 m d)

/-- Every recorded wait of the core is below the level that one launch leaves. -/
theorem wBelow (d : Dev nD) (W : Waits sig (HIx 1)) : (K (F := F)).WBelow (d.tc : Thread nD τ) W 8 := by
  rintro ⟨sl, ι⟩ -
  match ι with
  | none => exact Nat.zero_le _
  | some q => exact ((K (F := F)).lev_some_le _ q).trans (by omega)

/-- After the launch the core owes nothing, and may have recorded any waits. -/
theorem tcSt_owes (d : Dev nD) : ((K (F := F)).tcSt EH d 1 : sProp 𝕄)
    ⊢ iprop((∃ W, owes (d.tc : Thread nD τ) (0 : CellTallies nD τ sig (HIx 1)) W)
      ∗ ((∃ W, owes (d.tc : Thread nD τ) (0 : CellTallies nD τ sig (HIx 1)) W) -∗ (K (F := F)).tcSt EH d 1)) := by
  unfold SparseCore.Cfg.tcSt
  rw [(K (F := F)).Otc_end d (le_refl 1)]
  iintro ⟨⟨%W, -, HO⟩, Hst⟩
  isplitl [HO]; · iexists W; iexact HO
  iintro ⟨%W', HO⟩
  isplitl [HO]
  · iexists W'; isplitr
    · ipureintro; exact wBelow d W'
    · iexact HO
  iexact Hst

/-- The whole of @main on one device's core. -/
theorem hmain [∀ e, Nonempty (Elt F e)] (κ : GSem nD τ sig → ℕ) (d : Dev nD) :
    iprop((K (F := F)).ctx EH (P (Im m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (StableHlo.launchContents m d)
    from Pipeline.unscopedBufs_held (Ix := HIx 1) (Name := ℕ) (U := UU) (Lvl := ℕ) d (StableHlo.launchContents m d)]
  iintro ⟨#Hctx, Hst, ⟨Hb, Hh, Hts, -⟩, HG⟩
  iapply (StableHlo.wp_seq 𝒱 none Set.univ d (Pipeline.ucRefs τ sig) _ opsA opsA_sub opsA_fresh (StableHlo.launchContents m d)) $$ [Hb Hh]
  · isplitl [Hb] <;> iassumption
  iintro ⟨Hb, Hh⟩
  ihave H := (Entails.of_eq (StableHlo.held_sub_split (d.tc : Thread nD τ) sixRefs_sub (V1 m d))) $$ [Hh]
  · iexact Hh
  icases H with ⟨H6, Hr⟩
  rw [wp_bind]
  iapply ((K (F := F)).wp_run (D (F := F)) 𝒱 (EH := EH) (P := P (Im m)) κ d 0) $$ [Hst H6 Hr Hb Hts HG]
  isplitr; · iexact Hctx
  isplitl [Hst]; · iexact Hst
  isplitl [H6]
  · rw [st_eq, show whole (Im m d) d (Im m d).f (Im m d).g = StableHlo.held (d.tc : Thread nD τ) sixRefs (V1 m d) from (held_six d (V1 m d)).symm]
    iexact H6
  iintro ⟨Hst, Hdn⟩
  ihave H6 := (Entails.of_eq ((dn_eq (Im m) d).trans (held_six_after d (V1 m d)).symm)) $$ Hdn
  ihave Hh := (Entails.of_eq (show _ = StableHlo.held (d.tc : Thread nD τ) (Pipeline.ucRefs τ sig) (V2 m d) from held_after_join d (V1 m d))) $$ [H6 Hr]
  · isplitl [H6] <;> iassumption
  iapply (StableHlo.wp_seq 𝒱 none Set.univ d (Pipeline.ucRefs τ sig) _ opsB opsB_sub opsB_fresh (V2 m d)) $$ [Hb Hh]
  · isplitl [Hb] <;> iassumption
  iintro ⟨Hb, Hh⟩
  rw [wp_bind]
  ihave H := (show (K (F := F)).tcSt EH d ((0 : Fin 1).val + 1) ⊢ _ from tcSt_owes (F := F) d) $$ Hst
  icases H with ⟨HO, Hst⟩
  iapply (wp_region (V3 m) d) $$ [Hst Hb Hh HO HG Hts]
  isplitl [Hst Hts]
  · rw [hseg_post]
    iintro ⟨Hb, Hh, HO⟩
    iapply (StableHlo.wp_seq 𝒱 none Set.univ d (Pipeline.ucRefs τ sig) _ opsC opsC_sub opsC_fresh (V4 m d)) $$ [Hb Hh]
    · isplitl [Hb]; · iexact Hb
      iexact Hh
    iintro ⟨Hb, Hh⟩
    rw [wp_pure]; imodintro
    isplitl [Hst HO]
    · iapply Hst; iexact HO
    isplitl [Hh]; · iexact Hh
    isplitl [Hb] <;> iassumption
  isplitl [Hb]; · iexact Hb
  isplitl [Hh HO]
  · rw [hseg_pre]
    isplitl [Hh]; · iexact Hh
    iexact HO
  isplitr
  · iapply (SparseCore.Cfg.ctx_levAts κ); iexact Hctx
  iexact HG

/-- Every buffer of the device at the end. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave H' := (pointsTo_read_all (Pipeline.ucRefs τ sig) (fun b => ((d, b) : Loc nD τ sig)) (V5 m d) s') $$ [H HSI]
  · isplitl [H] <;> iassumption
  icases H' with ⟨%h, -⟩
  ipureintro; exact h

/-- Every buffer of every device at the end, and every semaphore at zero. -/
def QC : PUnit × MemSt nD τ sig (Elt F) → Prop := fun r =>
  (∀ c : Dev nD, ∀ b ∈ Pipeline.ucRefs τ sig, r.2.mem (c, b) = V5 m c b) ∧ r.2.sem = fun _ => 0

/-- The whole program runs to its end, every buffer at `V5`. -/
theorem run_main [∀ e, Nonempty (Elt F e)] (hI : ∀ d, (Im m d).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Im m)) (A := ∅) facts v₀
    (fun q hq => match q with | 0 => nomatch hq)
    (fun q _ => match q with | 0 => tileObl (Im m) facts hI)
    (fun q _ => match q with | 0 => SparseCore.Cfg.VecSplit.of_plain (vecSplit (Im m)))
    m ρ main (fun d => G d) (FIN m) (u₀ (F := F)) (sep_elim_left.trans (hu₀ (Im m))) (hmain m ρ) (fq m) (hfin m) (QC m) (fun _ h hz => ⟨h, hz⟩)

end Cert.KernelIdeal.Hand

end
-- ==== Proof.KernelIdeal.Reads.lean ====
/-
  What the program's buffers hold at each stage, in terms of the launch memory: the arguments are never written, and the
  lookup starts from the token table, the transposed output table and the flattened lists.
-/
module

public import proofs.«01_k».proof.Proof.KernelIdeal.Main

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore.Cfg (HIx)
open Idealize.SL Idealize.SL.Sem
open Idealize.ShloMosaic.StableHlo

variable {F : FTy → Type} [FloatOps F]

variable (m : (ℓ : Loc nD τ sig) → Buf (Elt F) ℓ)

/-! ## Before the lookup -/

theorem V1_arg0 (d : Dev nD) : V1 m d (Proc.devRef .tc main_arg0) = m ((d.tc : Thread nD τ).loc main_arg0) := by
  unfold V1; simp only [opsA]; after_results_simp <;> rfl
theorem V1_arg1 (d : Dev nD) : V1 m d (Proc.devRef .tc main_arg1) = m ((d.tc : Thread nD τ).loc main_arg1) := by
  unfold V1; simp only [opsA]; after_results_simp <;> rfl
theorem V1_arg2 (d : Dev nD) : V1 m d (Proc.devRef .tc main_arg2) = m ((d.tc : Thread nD τ).loc main_arg2) := by
  unfold V1; simp only [opsA]; after_results_simp <;> rfl
theorem V1_arg3 (d : Dev nD) : V1 m d (Proc.devRef .tc main_arg3) = m ((d.tc : Thread nD τ).loc main_arg3) := by
  unfold V1; simp only [opsA]; after_results_simp <;> rfl
theorem V1_arg4 (d : Dev nD) : V1 m d (Proc.devRef .tc main_arg4) = m ((d.tc : Thread nD τ).loc main_arg4) := by
  unfold V1; simp only [opsA]; after_results_simp <;> rfl
theorem V1_arg5 (d : Dev nD) : V1 m d (Proc.devRef .tc main_arg5) = m ((d.tc : Thread nD τ).loc main_arg5) := by
  unfold V1; simp only [opsA]; after_results_simp <;> rfl
theorem V1_v0 (d : Dev nD) : V1 m d (Proc.devRef .tc main_v0) = shapeCast S2048 (m ((d.tc : Thread nD τ).loc main_arg0)) shapeCasts_S1x2048_S2048 := by
  unfold V1; simp only [opsA]; after_results_simp <;> rfl
theorem V1_v1 (d : Dev nD) : V1 m d (Proc.devRef .tc main_v1) = shapeCast S2048 (m ((d.tc : Thread nD τ).loc main_arg1)) shapeCasts_S1x2048_S2048 := by
  unfold V1; simp only [opsA]; after_results_simp <;> rfl
theorem V1_v2 (d : Dev nD) : V1 m d (Proc.devRef .tc main_v2) = transpose S100000x128 [1, 0] (m ((d.tc : Thread nD τ).loc main_arg4)) transposes_S128x100000_S100000x128_1_0 := by
  unfold V1; simp only [opsA]; after_results_simp <;> rfl

/-- The lookup's token list is the tokens, -/
theorem Im_iA (d : Dev nD) : (Im m d).iA = shapeCast S2048 (m ((d.tc : Thread nD τ).loc main_arg0)) shapeCasts_S1x2048_S2048 := V1_v0 m d
/-- its target list the targets, -/
theorem Im_iB (d : Dev nD) : (Im m d).iB = shapeCast S2048 (m ((d.tc : Thread nD τ).loc main_arg1)) shapeCasts_S1x2048_S2048 := V1_v1 m d
/-- its tables the token table -/
theorem Im_tA (d : Dev nD) : (Im m d).tA = m ((d.tc : Thread nD τ).loc main_arg2) := V1_arg2 m d
/-- and the output table transposed. -/
theorem Im_tB (d : Dev nD) : (Im m d).tB = transpose S100000x128 [1, 0] (m ((d.tc : Thread nD τ).loc main_arg4)) transposes_S128x100000_S100000x128_1_0 := V1_v2 m d

/-- When every token and every target is below 100000, the lookup's lists name rows of its tables. -/
theorem inRange (h : ∀ (d : Dev nD) (i : S1x2048.Idx), ((m ((d.tc : Thread nD τ).loc main_arg0) : IVec S1x2048 32) i).toNat < 100000
    ∧ ((m ((d.tc : Thread nD τ).loc main_arg1) : IVec S1x2048 32) i).toNat < 100000) (d : Dev nD) : (Im m d).InRange := by
  constructor
  · intro k; rw [Im_iA]; exact (h d _).1
  · intro k; rw [Im_iB]; exact (h d _).2

/-! ## After the lookup and before the projection -/

theorem V2_arg0 (d : Dev nD) : V2 m d (Proc.devRef .tc main_arg0) = m ((d.tc : Thread nD τ).loc main_arg0) :=
  (afterLookup_of_ne (V1 m d) (b := Proc.devRef .tc main_arg0) (by decide) (by decide)).trans (V1_arg0 m d)
theorem V2_arg1 (d : Dev nD) : V2 m d (Proc.devRef .tc main_arg1) = m ((d.tc : Thread nD τ).loc main_arg1) :=
  (afterLookup_of_ne (V1 m d) (b := Proc.devRef .tc main_arg1) (by decide) (by decide)).trans (V1_arg1 m d)
theorem V2_arg2 (d : Dev nD) : V2 m d (Proc.devRef .tc main_arg2) = m ((d.tc : Thread nD τ).loc main_arg2) :=
  (afterLookup_of_ne (V1 m d) (b := Proc.devRef .tc main_arg2) (by decide) (by decide)).trans (V1_arg2 m d)
theorem V2_arg3 (d : Dev nD) : V2 m d (Proc.devRef .tc main_arg3) = m ((d.tc : Thread nD τ).loc main_arg3) :=
  (afterLookup_of_ne (V1 m d) (b := Proc.devRef .tc main_arg3) (by decide) (by decide)).trans (V1_arg3 m d)
theorem V2_arg4 (d : Dev nD) : V2 m d (Proc.devRef .tc main_arg4) = m ((d.tc : Thread nD τ).loc main_arg4) :=
  (afterLookup_of_ne (V1 m d) (b := Proc.devRef .tc main_arg4) (by decide) (by decide)).trans (V1_arg4 m d)
theorem V2_arg5 (d : Dev nD) : V2 m d (Proc.devRef .tc main_arg5) = m ((d.tc : Thread nD τ).loc main_arg5) :=
  (afterLookup_of_ne (V1 m d) (b := Proc.devRef .tc main_arg5) (by decide) (by decide)).trans (V1_arg5 m d)
theorem V2_v1 (d : Dev nD) : V2 m d (Proc.devRef .tc main_v1) = shapeCast S2048 (m ((d.tc : Thread nD τ).loc main_arg1)) shapeCasts_S1x2048_S2048 :=
  (afterLookup_of_ne (V1 m d) (b := Proc.devRef .tc main_v1) (by decide) (by decide)).trans (V1_v1 m d)
theorem V2_v2 (d : Dev nD) : V2 m d (Proc.devRef .tc main_v2) = transpose S100000x128 [1, 0] (m ((d.tc : Thread nD τ).loc main_arg4)) transposes_S128x100000_S100000x128_1_0 :=
  (afterLookup_of_ne (V1 m d) (b := Proc.devRef .tc main_v2) (by decide) (by decide)).trans (V1_v2 m d)

theorem V3_arg0 (d : Dev nD) : V3 m d (Proc.devRef .tc main_arg0) = m ((d.tc : Thread nD τ).loc main_arg0) := by
  rw [← V2_arg0 m d]; unfold V3; simp only [opsB, TRef.binary, TRef.nullary, TRef.reshape, TRef.ternary, TRef.unary, TRef.toBuf, TRef.ofBuf, cast_eq]; after_results_simp <;> rfl
theorem V3_arg1 (d : Dev nD) : V3 m d (Proc.devRef .tc main_arg1) = m ((d.tc : Thread nD τ).loc main_arg1) := by
  rw [← V2_arg1 m d]; unfold V3; simp only [opsB, TRef.binary, TRef.nullary, TRef.reshape, TRef.ternary, TRef.unary, TRef.toBuf, TRef.ofBuf, cast_eq]; after_results_simp <;> rfl
theorem V3_arg2 (d : Dev nD) : V3 m d (Proc.devRef .tc main_arg2) = m ((d.tc : Thread nD τ).loc main_arg2) := by
  rw [← V2_arg2 m d]; unfold V3; simp only [opsB, TRef.binary, TRef.nullary, TRef.reshape, TRef.ternary, TRef.unary, TRef.toBuf, TRef.ofBuf, cast_eq]; after_results_simp <;> rfl
theorem V3_arg3 (d : Dev nD) : V3 m d (Proc.devRef .tc main_arg3) = m ((d.tc : Thread nD τ).loc main_arg3) := by
  rw [← V2_arg3 m d]; unfold V3; simp only [opsB, TRef.binary, TRef.nullary, TRef.reshape, TRef.ternary, TRef.unary, TRef.toBuf, TRef.ofBuf, cast_eq]; after_results_simp <;> rfl
theorem V3_arg4 (d : Dev nD) : V3 m d (Proc.devRef .tc main_arg4) = m ((d.tc : Thread nD τ).loc main_arg4) := by
  rw [← V2_arg4 m d]; unfold V3; simp only [opsB, TRef.binary, TRef.nullary, TRef.reshape, TRef.ternary, TRef.unary, TRef.toBuf, TRef.ofBuf, cast_eq]; after_results_simp <;> rfl
theorem V3_arg5 (d : Dev nD) : V3 m d (Proc.devRef .tc main_arg5) = m ((d.tc : Thread nD τ).loc main_arg5) := by
  rw [← V2_arg5 m d]; unfold V3; simp only [opsB, TRef.binary, TRef.nullary, TRef.reshape, TRef.ternary, TRef.unary, TRef.toBuf, TRef.ofBuf, cast_eq]; after_results_simp <;> rfl
theorem V3_v2 (d : Dev nD) : V3 m d (Proc.devRef .tc main_v2) = transpose S100000x128 [1, 0] (m ((d.tc : Thread nD τ).loc main_arg4)) transposes_S128x100000_S100000x128_1_0 := by
  rw [← V2_v2 m d]; unfold V3; simp only [opsB, TRef.binary, TRef.nullary, TRef.reshape, TRef.ternary, TRef.unary, TRef.toBuf, TRef.ofBuf, cast_eq]; after_results_simp <;> rfl
/-- The projection's token rows are the lookup's, -/
theorem V3_v3_0 (d : Dev nD) : V3 m d (Proc.devRef .tc main_v3_0) = gRows (Im m d).tA (Im m d).iA := by
  rw [show gRows (Im m d).tA (Im m d).iA = V2 m d (Proc.devRef .tc main_v3_0) from (afterLookup_v3_0 (V1 m d)).symm]; unfold V3; simp only [opsB, TRef.binary, TRef.nullary, TRef.reshape, TRef.ternary, TRef.unary, TRef.toBuf, TRef.ofBuf, cast_eq]; after_results_simp <;> rfl
/-- and so its target rows. -/
theorem V3_v3_1 (d : Dev nD) : V3 m d (Proc.devRef .tc main_v3_1) = gRows (Im m d).tB (Im m d).iB := by
  rw [show gRows (Im m d).tB (Im m d).iB = V2 m d (Proc.devRef .tc main_v3_1) from (afterLookup_v3_1 (V1 m d)).symm]; unfold V3; simp only [opsB, TRef.binary, TRef.nullary, TRef.reshape, TRef.ternary, TRef.unary, TRef.toBuf, TRef.ofBuf, cast_eq]; after_results_simp <;> rfl

/-- A table read at a list of indices, as the host does it: a negative word counts from the end, an index off the table
    reads as not-a-number. -/
def takeOf (x : FVec F S100000 .f32) (t : IVec S2048 32) : FVec F S2048 .f32 :=
  let i : IVec S2048x1 32 := broadcastInDim S2048x1 ![0] bcast_S2048_S2048x1_0
    (select (cmpi .slt t (broadcastInDim S2048 ![] bcast_S_S2048 (constantI S_ 32 0#32))) (addi t (broadcastInDim S2048 ![] bcast_S_S2048 (constantI S_ 32 100000#32))) t)
  select (Host.reduce IntOp.andi (andi (cmpi .sge i (broadcastInDim S2048x1 ![] bcast_S_S2048x1 (constantI S_ 32 0#32)))
      (cmpi .sle i (broadcastInDim S2048x1 ![0, 1] bcast_S1x1_S2048x1_0_1 (broadcastInDim S1x1 ![1] bcast_S1_S1x1_1 (constantI S1 32 99999#32))))) (constantI S_ 1 1#1) reducesTo_S2048x1_S2048_d1 h_S_)
    (Host.gather gather_S100000_S2048x1_S2048_n_0_n_n_0_1_1 x i) (broadcastInDim S2048 ![] bcast_S_S2048 (constant S_ .f32 0x7FC00000#32))

/-- The projection's bias row is the bias at the targets. -/
theorem V3_v5 (d : Dev nD) : V3 m d (Proc.devRef .tc main_v5)
    = shapeCast S1x2048 (takeOf (m ((d.tc : Thread nD τ).loc main_arg5)) (shapeCast S2048 (m ((d.tc : Thread nD τ).loc main_arg1)) shapeCasts_S1x2048_S2048)) shapeCasts_S2048_S1x2048 := by
  rw [← V2_arg5 m d, ← V2_v1 m d]; unfold V3 takeOf; simp only [opsB, TRef.binary, TRef.nullary, TRef.reshape, TRef.ternary, TRef.unary, TRef.toBuf, TRef.ofBuf, cast_eq]; after_results_simp <;> rfl

/-! ## After the projection, and at the end -/

theorem V4_arg0 (d : Dev nD) : V4 m d (Proc.devRef .tc main_arg0) = m ((d.tc : Thread nD τ).loc main_arg0) :=
  (Pipeline.afterRegion_of_not_arr (dats (atRef (V3 m)) 0 d) (V3 m d) (b := main_arg0) (by decide)).trans (V3_arg0 m d)
theorem V4_arg1 (d : Dev nD) : V4 m d (Proc.devRef .tc main_arg1) = m ((d.tc : Thread nD τ).loc main_arg1) :=
  (Pipeline.afterRegion_of_not_arr (dats (atRef (V3 m)) 0 d) (V3 m d) (b := main_arg1) (by decide)).trans (V3_arg1 m d)
theorem V4_arg2 (d : Dev nD) : V4 m d (Proc.devRef .tc main_arg2) = m ((d.tc : Thread nD τ).loc main_arg2) :=
  (Pipeline.afterRegion_of_not_arr (dats (atRef (V3 m)) 0 d) (V3 m d) (b := main_arg2) (by decide)).trans (V3_arg2 m d)
theorem V4_arg3 (d : Dev nD) : V4 m d (Proc.devRef .tc main_arg3) = m ((d.tc : Thread nD τ).loc main_arg3) :=
  (Pipeline.afterRegion_arr (dats (atRef (V3 m)) 0 d) (V3 m d) launch1.win.arr_inj 1).trans
    (((dats (atRef (V3 m)) 0 d).arrAt_in 1 rfl _).trans (V3_arg3 m d))
theorem V4_arg4 (d : Dev nD) : V4 m d (Proc.devRef .tc main_arg4) = m ((d.tc : Thread nD τ).loc main_arg4) :=
  (Pipeline.afterRegion_of_not_arr (dats (atRef (V3 m)) 0 d) (V3 m d) (b := main_arg4) (by decide)).trans (V3_arg4 m d)
theorem V4_arg5 (d : Dev nD) : V4 m d (Proc.devRef .tc main_arg5) = m ((d.tc : Thread nD τ).loc main_arg5) :=
  (Pipeline.afterRegion_of_not_arr (dats (atRef (V3 m)) 0 d) (V3 m d) (b := main_arg5) (by decide)).trans (V3_arg5 m d)
theorem V5_arg0 (d : Dev nD) : V5 m d (Proc.devRef .tc main_arg0) = m ((d.tc : Thread nD τ).loc main_arg0) := by
  rw [← V4_arg0 m d]; unfold V5; simp only [opsC]; after_results_simp <;> rfl
theorem V5_arg1 (d : Dev nD) : V5 m d (Proc.devRef .tc main_arg1) = m ((d.tc : Thread nD τ).loc main_arg1) := by
  rw [← V4_arg1 m d]; unfold V5; simp only [opsC]; after_results_simp <;> rfl
theorem V5_arg2 (d : Dev nD) : V5 m d (Proc.devRef .tc main_arg2) = m ((d.tc : Thread nD τ).loc main_arg2) := by
  rw [← V4_arg2 m d]; unfold V5; simp only [opsC]; after_results_simp <;> rfl
theorem V5_arg3 (d : Dev nD) : V5 m d (Proc.devRef .tc main_arg3) = m ((d.tc : Thread nD τ).loc main_arg3) := by
  rw [← V4_arg3 m d]; unfold V5; simp only [opsC]; after_results_simp <;> rfl
theorem V5_arg4 (d : Dev nD) : V5 m d (Proc.devRef .tc main_arg4) = m ((d.tc : Thread nD τ).loc main_arg4) := by
  rw [← V4_arg4 m d]; unfold V5; simp only [opsC]; after_results_simp <;> rfl
theorem V5_arg5 (d : Dev nD) : V5 m d (Proc.devRef .tc main_arg5) = m ((d.tc : Thread nD τ).loc main_arg5) := by
  rw [← V4_arg5 m d]; unfold V5; simp only [opsC]; after_results_simp <;> rfl

/-- The first result is the projection's first output, its axes in order. -/
theorem V5_v7 (d : Dev nD) : V5 m d (Proc.devRef .tc main_v7)
    = transpose S1x2048x100000 [0, 2, 1] ((dats (atRef (V3 m)) 0 d).arrAt 5 cfg1.N : S1x100000x2048.Idx → Elt F .f32) transposes_S1x100000x2048_S1x2048x100000_0_2_1 := by
  rw [← show V4 m d (Proc.devRef .tc main_v6_0) = (dats (atRef (V3 m)) 0 d).arrAt 5 cfg1.N from
    Pipeline.afterRegion_arr (dats (atRef (V3 m)) 0 d) (V3 m d) launch1.win.arr_inj 5]
  unfold V5; simp only [opsC]; after_results_simp <;> rfl
/-- The second result is the projection's second output. -/
theorem V5_v8 (d : Dev nD) : V5 m d (Proc.devRef .tc main_v8)
    = shapeCast S_ ((dats (atRef (V3 m)) 0 d).arrAt 6 cfg1.N : S1x1.Idx → Elt F .f32) shapeCasts_S1x1_S_ := by
  rw [← show V4 m d (Proc.devRef .tc main_v6_1) = (dats (atRef (V3 m)) 0 d).arrAt 6 cfg1.N from
    Pipeline.afterRegion_arr (dats (atRef (V3 m)) 0 d) (V3 m d) launch1.win.arr_inj 6]
  unfold V5; simp only [opsC]; after_results_simp <;> rfl

/-! ## The run, read at the arguments and the results -/

variable (ρ : Dev nD → PrngReg)

/-- From a launch memory whose tokens and targets name rows, the program ends with its arguments unchanged, every
    semaphore at zero, and the results at what the stages left. -/
theorem run_reads [∀ e, Nonempty (Elt F e)] (hI : ∀ d, (Im m d).InRange) :
    θ_run (Cert.KernelIdeal.defs (F := F)) (Cert.KernelIdeal.threads (F := F)) ⟨m, fun _ => 0, ρ⟩ (fun r =>
      (∀ c : Dev nD, (r.2.mem ((c.tc : Thread nD τ).loc main_v7) = V5 m c (Proc.devRef .tc main_v7)
        ∧ r.2.mem ((c.tc : Thread nD τ).loc main_v8) = V5 m c (Proc.devRef .tc main_v8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) := by
  refine (θ_run (Cert.KernelIdeal.defs (F := F)) _ _).mono (fun r h => ?_) (run_main m ρ hI)
  refine ⟨fun c => ⟨⟨h.1 c _ (Pipeline.devRef_mem_ucRefs (by decide)), h.1 c _ (Pipeline.devRef_mem_ucRefs (by decide))⟩,
    (h.1 c _ (Pipeline.devRef_mem_ucRefs (b := main_arg0) (by decide))).trans (V5_arg0 m c),
    (h.1 c _ (Pipeline.devRef_mem_ucRefs (b := main_arg1) (by decide))).trans (V5_arg1 m c),
    (h.1 c _ (Pipeline.devRef_mem_ucRefs (b := main_arg2) (by decide))).trans (V5_arg2 m c),
    (h.1 c _ (Pipeline.devRef_mem_ucRefs (b := main_arg3) (by decide))).trans (V5_arg3 m c),
    (h.1 c _ (Pipeline.devRef_mem_ucRefs (b := main_arg4) (by decide))).trans (V5_arg4 m c),
    (h.1 c _ (Pipeline.devRef_mem_ucRefs (b := main_arg5) (by decide))).trans (V5_arg5 m c)⟩, h.2⟩

end Cert.KernelIdeal.Hand

end
-- ==== Proof.Frames.lean ====
/- The frames: each program runs to its end from any memory its precondition admits, leaves its arguments as they were and
   every semaphore counter at zero. -/
module

public import proofs.«01_k».proof.Defs
public import proofs.«01_k».proof.Proof.Ranges
public import proofs.«01_k».proof.Proof.Kernel.Reads
public import proofs.«01_k».proof.Proof.KernelIdeal.Reads
public import proofs.«01_k».proof.Proof.Gen.ReferenceIdeal.Run
public import Idealize.ShloMosaic.Lib.Quiescent

@[expose] public section

noncomputable section

namespace Cert.Frames

open Idealize.ShloMosaic Idealize.SL.Sem

/-- The kernel as printed runs, its arguments unchanged and its counters at zero. -/
theorem kernel : Cert.quiescent_Kernel := fun m g hp =>
  (Cert.Kernel.Hand.run_reads m g (Cert.Kernel.Hand.inRange m fun d i => Ranges.of_in_vocab _ _ _ _ _ _ (hp d) i)).mono
    fun _ h => ⟨fun c => (h.1 c).2, h.2⟩

/-- The ideal kernel runs, its arguments unchanged and its counters at zero. -/
theorem kernelIdeal : Cert.quiescent_KernelIdeal := fun m g hp =>
  (Cert.KernelIdeal.Hand.run_reads m g (Cert.KernelIdeal.Hand.inRange m fun d i => Ranges.of_in_vocab _ _ _ _ _ _ (hp d) i)).mono
    fun _ h => ⟨fun c => (h.1 c).2, h.2⟩

/-- The same under the stronger precondition. -/
theorem kernelIdeal_no_bias : Cert.quiescent_KernelIdeal_pre_in_vocab_no_bias := fun m g hp =>
  (Cert.KernelIdeal.Hand.run_reads m g (Cert.KernelIdeal.Hand.inRange m fun d i => Ranges.of_in_vocab_no_bias _ _ _ _ _ _ (hp d) i)).mono
    fun _ h => ⟨fun c => (h.1 c).2, h.2⟩

/-- The reference runs, its arguments unchanged; it names no semaphore. -/
theorem referenceIdeal : Cert.quiescent_ReferenceIdeal := fun m g _ =>
  (Cert.ReferenceIdeal.Value.run m g).mono fun _ h => ⟨fun c => (h c).2.2, sem_eq_zero_of_no_sems (sig := Cert.ReferenceIdeal.sig) rfl _⟩

/-- The same under the precondition. -/
theorem referenceIdeal_no_bias : Cert.quiescent_ReferenceIdeal_pre_in_vocab_no_bias := fun m g _ => referenceIdeal m g trivial

end Cert.Frames

end
-- ==== Proof.Gathers.lean ====
/- The row gathers of the reference, read at an index: whole rows of a table by a list of row numbers, in two layouts of the
   list, and one entry of each row by a column number per row. -/
module

public import Idealize.ShloMosaic.Lib.StableHlo.Predicate
public import Idealize.ShloMosaic.Lib.ReduceAll
public import Idealize.ShloMosaic.PureOps.Ideal.Laws
public import Idealize.ShloMosaic.Lib.ValueIdx
public import Idealize.ShloMosaic.Lib.Pipeline.Value

@[expose] public section

noncomputable section

namespace Cert.Gathers

open Idealize.ShloMosaic Idealize.ShloMosaic.ValueIdx

variable {α : Type}

/-! ## Rows by a list `[1, T, 1]` -/

/-- A table `[N, D]`, the row numbers `[1, T, 1]`, the rows `[1, T, D]`. -/
abbrev rows3 (N D T : Nat) (wf : GatherDims.WF ⟨2, ![N, D]⟩ ⟨3, ![1, T, 1]⟩ ⟨3, ![1, T, D]⟩ [2] [0] [] [0] [] 2 ![1, D]) :
    GatherDims ⟨2, ![N, D]⟩ ⟨3, ![1, T, 1]⟩ ⟨3, ![1, T, D]⟩ where
  offsetDims := [2]
  collapsedSliceDims := [0]
  operandBatchingDims := []
  startIndicesBatchingDims := []
  startIndexMap := [0]
  indexVectorDim := 2
  sliceSizes := ![1, D]
  wf := wf

/-- Row `t` of the result is the table's row of the `t`-th number. -/
theorem rows3_apply {N D T w : Nat} (wf : GatherDims.WF ⟨2, ![N, D]⟩ ⟨3, ![1, T, 1]⟩ ⟨3, ![1, T, D]⟩ [2] [0] [] [0] [] 2 ![1, D])
    (x : (⟨2, ![N, D]⟩ : Shape).Idx → α) (idx : IVec ⟨3, ![1, T, 1]⟩ w) (t : Fin T) (k : Fin D) (r : Fin N)
    (hr : (idx (ix3 0 t 0)).toInt.toNat = r.val) : Host.gather (rows3 N D T wf) x idx (ix3 0 t k) = x (ix2 r k) := by
  unfold Host.gather
  refine congrArg x (funext fun a => Fin.ext ?_)
  match a with
  | ⟨0, _⟩ =>
    show (rows3 N D T wf).start (ix3 0 t k) idx 0 + (rows3 N D T wf).batchCoord (ix3 0 t k) 0 + (rows3 N D T wf).offCoord (ix3 0 t k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3 N D T wf).startIndexMap from List.mem_singleton.mpr rfl)]
    have hsi : (rows3 N D T wf).siIdx (ix3 0 t k) ⟨List.idxOf (0 : Fin 2) (rows3 N D T wf).startIndexMap,
        List.idxOf_lt_length_iff.2 (List.mem_singleton.mpr rfl)⟩ = ix3 0 t 0 := by
      funext b
      match b with
      | ⟨0, _⟩ => rfl
      | ⟨1, _⟩ => rfl
      | ⟨2, _⟩ => rfl
    rw [hsi, hr]
    show min r.val (N - 1) = r.val
    have := r.isLt; omega
  | ⟨1, _⟩ =>
    show (rows3 N D T wf).start (ix3 0 t k) idx 1 + (rows3 N D T wf).batchCoord (ix3 0 t k) 1 + (rows3 N D T wf).offCoord (ix3 0 t k) 1 = k.val
    rw [GatherDims.batchCoord_eq_zero _ _ _ List.not_mem_nil]
    unfold GatherDims.start
    rw [dif_neg (show (1 : Fin 2) ∉ (rows3 N D T wf).startIndexMap from by simp)]
    simp only [Nat.add_zero, Nat.zero_add]
    rfl

/-! ## Rows by a list `[T, 1]` -/

/-- A table `[N, D]`, the row numbers `[T, 1]`, the rows `[T, D]`. -/
abbrev rows2 (N D T : Nat) (wf : GatherDims.WF ⟨2, ![N, D]⟩ ⟨2, ![T, 1]⟩ ⟨2, ![T, D]⟩ [1] [0] [] [0] [] 1 ![1, D]) :
    GatherDims ⟨2, ![N, D]⟩ ⟨2, ![T, 1]⟩ ⟨2, ![T, D]⟩ where
  offsetDims := [1]
  collapsedSliceDims := [0]
  operandBatchingDims := []
  startIndicesBatchingDims := []
  startIndexMap := [0]
  indexVectorDim := 1
  sliceSizes := ![1, D]
  wf := wf

/-- Row `t` of the result is the table's row of the `t`-th number. -/
theorem rows2_apply {N D T w : Nat} (wf : GatherDims.WF ⟨2, ![N, D]⟩ ⟨2, ![T, 1]⟩ ⟨2, ![T, D]⟩ [1] [0] [] [0] [] 1 ![1, D])
    (x : (⟨2, ![N, D]⟩ : Shape).Idx → α) (idx : IVec ⟨2, ![T, 1]⟩ w) (t : Fin T) (k : Fin D) (r : Fin N)
    (hr : (idx (ix2 t 0)).toInt.toNat = r.val) : Host.gather (rows2 N D T wf) x idx (ix2 t k) = x (ix2 r k) := by
  unfold Host.gather
  refine congrArg x (funext fun a => Fin.ext ?_)
  match a with
  | ⟨0, _⟩ =>
    show (rows2 N D T wf).start (ix2 t k) idx 0 + (rows2 N D T wf).batchCoord (ix2 t k) 0 + (rows2 N D T wf).offCoord (ix2 t k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2 N D T wf).startIndexMap from List.mem_singleton.mpr rfl)]
    have hsi : (rows2 N D T wf).siIdx (ix2 t k) ⟨List.idxOf (0 : Fin 2) (rows2 N D T wf).startIndexMap,
        List.idxOf_lt_length_iff.2 (List.mem_singleton.mpr rfl)⟩ = ix2 t 0 := by
      funext b
      match b with
      | ⟨0, _⟩ => rfl
      | ⟨1, _⟩ => rfl
    rw [hsi, hr]
    show min r.val (N - 1) = r.val
    have := r.isLt; omega
  | ⟨1, _⟩ =>
    show (rows2 N D T wf).start (ix2 t k) idx 1 + (rows2 N D T wf).batchCoord (ix2 t k) 1 + (rows2 N D T wf).offCoord (ix2 t k) 1 = k.val
    rw [GatherDims.batchCoord_eq_zero _ _ _ List.not_mem_nil]
    unfold GatherDims.start
    rw [dif_neg (show (1 : Fin 2) ∉ (rows2 N D T wf).startIndexMap from by simp)]
    simp only [Nat.add_zero, Nat.zero_add]
    rfl

/-! ## One entry of each row -/

/-- An array `[T, N]`, a column number per row `[T, 1, 1]`, the entries `[T, 1]`. -/
abbrev along (T N : Nat) (wf : GatherDims.WF ⟨2, ![T, N]⟩ ⟨3, ![T, 1, 1]⟩ ⟨2, ![T, 1]⟩ [] [1] [0] [1] [0] 2 ![1, 1]) :
    GatherDims ⟨2, ![T, N]⟩ ⟨3, ![T, 1, 1]⟩ ⟨2, ![T, 1]⟩ where
  offsetDims := []
  collapsedSliceDims := [1]
  operandBatchingDims := [0]
  startIndicesBatchingDims := [0]
  startIndexMap := [1]
  indexVectorDim := 2
  sliceSizes := ![1, 1]
  wf := wf

/-- Entry `t` of the result is row `t`'s at the `t`-th number. -/
theorem along_apply {T N w : Nat} (wf : GatherDims.WF ⟨2, ![T, N]⟩ ⟨3, ![T, 1, 1]⟩ ⟨2, ![T, 1]⟩ [] [1] [0] [1] [0] 2 ![1, 1])
    (x : (⟨2, ![T, N]⟩ : Shape).Idx → α) (idx : IVec ⟨3, ![T, 1, 1]⟩ w) (t : Fin T) (r : Fin N)
    (hr : (idx (ix3 t 0 0)).toInt.toNat = r.val) : Host.gather (along T N wf) x idx (ix2 t 0) = x (ix2 t r) := by
  unfold Host.gather
  refine congrArg x (funext fun a => Fin.ext ?_)
  match a with
  | ⟨0, _⟩ =>
    show (along T N wf).start (ix2 t 0) idx 0 + (along T N wf).batchCoord (ix2 t 0) 0 + (along T N wf).offCoord (ix2 t 0) 0 = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (along T N wf).start (ix2 t 0) idx 1 + (along T N wf).batchCoord (ix2 t 0) 1 + (along T N wf).offCoord (ix2 t 0) 1 = r.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (along T N wf).startIndexMap from List.mem_singleton.mpr rfl)]
    have hsi : (along T N wf).siIdx (ix2 t 0) ⟨List.idxOf (1 : Fin 2) (along T N wf).startIndexMap,
        List.idxOf_lt_length_iff.2 (List.mem_singleton.mpr rfl)⟩ = ix3 t 0 0 := by
      funext b
      match b with
      | ⟨0, _⟩ => rfl
      | ⟨1, _⟩ => rfl
      | ⟨2, _⟩ => rfl
    rw [hsi, hr]
    show min r.val (N - 1) = r.val
    have := r.isLt; omega

/-! ## The row numbers: wrapped, and tested against the table -/

/-- A number that is not negative is not wrapped. -/
theorem wrap_eq (w n : BitVec 32) (hw : w.toNat < 2 ^ 31) : Scalar.select (IntOp.cmpi .slt w 0#32) (IntOp.addi w n) w = w := by
  have h : IntOp.cmpi .slt w 0#32 ≠ 1#1 := fun h => by
    have := (StableHlo.Predicate.slt_iff_toNat hw (by decide)).1 h
    exact absurd this (Nat.not_lt_zero _)
  rw [eq_zero_of_ne_one h]; rfl

/-- A number up to the last row passes the test. -/
theorem test_eq (w hi : BitVec 32) (hhi : hi.toNat < 2 ^ 31) (hw : w.toNat ≤ hi.toNat) :
    IntOp.andi (IntOp.cmpi .sge w 0#32) (IntOp.cmpi .sle w hi) = 1#1 :=
  IntOp.andi_eq_one.2 ⟨(StableHlo.Predicate.sge_iff_toNat (by omega) (by decide)).2 (Nat.zero_le _), (StableHlo.Predicate.sle_iff_toNat (by omega) hhi).2 hw⟩

/-- A small word, read signed. -/
theorem toInt_toNat (w : BitVec 32) (hw : w.toNat < 2 ^ 31) : w.toInt.toNat = w.toNat := by
  rw [StableHlo.Predicate.toInt_eq_toNat_of_lt hw]; rfl

/-! ## Indices of arrays with unit axes -/

/-- An index of `[1, T, 1]` is its middle coordinate. -/
theorem exists_mid {T : Nat} (i : (⟨3, ![1, T, 1]⟩ : Shape).Idx) : ∃ t : Fin T, i = ix3 0 t 0 :=
  ⟨i 1, funext fun a => match a with
    | ⟨0, _⟩ => Fin.ext (Nat.lt_one_iff.1 (i 0).isLt)
    | ⟨1, _⟩ => rfl
    | ⟨2, _⟩ => Fin.ext (Nat.lt_one_iff.1 (i 2).isLt)⟩

/-- An index of `[T, 1]` is its first coordinate. -/
theorem exists_col {T : Nat} (i : (⟨2, ![T, 1]⟩ : Shape).Idx) : ∃ t : Fin T, i = ix2 t 0 :=
  ⟨i 0, funext fun a => match a with
    | ⟨0, _⟩ => rfl
    | ⟨1, _⟩ => Fin.ext (Nat.lt_one_iff.1 (i 1).isLt)⟩

/-- An index of `[T, 1, 1]` is its first coordinate. -/
theorem exists_head {T : Nat} (i : (⟨3, ![T, 1, 1]⟩ : Shape).Idx) : ∃ t : Fin T, i = ix3 t 0 0 :=
  ⟨i 0, funext fun a => match a with
    | ⟨0, _⟩ => rfl
    | ⟨1, _⟩ => Fin.ext (Nat.lt_one_iff.1 (i 1).isLt)
    | ⟨2, _⟩ => Fin.ext (Nat.lt_one_iff.1 (i 2).isLt)⟩

/-- A sum over a vector's indices is the sum over its positions. -/
theorem sum_vec {M : Type} [AddCommMonoid M] {n : Nat} (f : (⟨1, ![n]⟩ : Shape).Idx → M) : ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

/-- A matrix's rows summed. -/
theorem rowSum_apply {T N : Nat} (h' : (⟨2, ![T, N]⟩ : Shape).ReducesTo [1] ⟨1, ![T]⟩) (h : (⟨2, ![T, N]⟩ : Shape).Reduces [1] ⟨1, ![T]⟩)
    (x : (⟨2, ![T, N]⟩ : Shape).Idx → EReal) (init : EReal) (t : Fin T) :
    Ideal.hostReduceAdd h' x init (ix1 t) = init + ∑ v : Fin N, x (ix2 t v) := by
  rw [Ideal.hostReduceAdd_single h' h]
  refine congrArg (init + ·) (Finset.sum_congr rfl fun v _ => congrArg x ?_)
  funext a; match a with | ⟨0, _⟩ => rfl | ⟨1, _⟩ => rfl

/-- The host's logarithm at an index, -/
theorem hostLog_apply {s : Shape} (x : FVec Ideal s .f32) (i : s.Idx) : Host.log x i = Ideal.log (x i) := rfl
/-- its exponential, -/
theorem hostExp_apply {s : Shape} (x : FVec Ideal s .f32) (i : s.Idx) : Host.exp x i = Ideal.exp (x i) := rfl

end Cert.Gathers

end
-- ==== Proof.Spec.lean ====
/- What both programs compute, over the extended reals: the logits, the mean loss over the tokens, and why a finite shift of a
   row's logits leaves the logarithm of its summed exponentials alone. -/
module

public import Idealize.ShloMosaic.PureOps.Ideal.Laws
public import Idealize.ShloMosaic.Lib.ValueIdx

@[expose] public section

noncomputable section

namespace Cert.Spec

open Idealize.ShloMosaic Idealize.ShloMosaic.ValueIdx

/-! ## The function -/

/-- The vocabulary row that a word names. -/
def row (w : BitVec 32) : Fin 100000 := ⟨min w.toNat 99999, by omega⟩

/-- A word inside the vocabulary names the row of its value. -/
theorem row_val {w : BitVec 32} (h : w.toNat < 100000) : (row w).val = w.toNat := by
  show min w.toNat 99999 = _; omega

/-- Token `t`'s logit of vocabulary entry `v`: its embedding plus its position's, against the head's column. -/
def logit (ids : (⟨2, ![1, 2048]⟩ : Shape).Idx → BitVec 32) (tok : (⟨2, ![100000, 128]⟩ : Shape).Idx → EReal)
    (pos : (⟨2, ![2048, 128]⟩ : Shape).Idx → EReal) (W : (⟨2, ![128, 100000]⟩ : Shape).Idx → EReal) (t : Fin 2048) (v : Fin 100000) : EReal :=
  ∑ k : Fin 128, (tok (ix2 (row (ids (ix2 0 t))) k) + pos (ix2 t k)) * W (ix2 k v)

/-- The mean over the tokens of the logarithm of the summed exponentials of a row less the target's logit. -/
def loss (tgt : (⟨2, ![1, 2048]⟩ : Shape).Idx → BitVec 32) (x : Fin 2048 → Fin 100000 → EReal) : EReal :=
  Ideal.div (∑ t : Fin 2048, (Ideal.log (∑ v : Fin 100000, Ideal.exp (x t v)) - x t (row (tgt (ix2 0 t))))) (Ideal.ofBits .f32 0x45000000#32)

/-! ## Shifting a row -/

/-- An exponential is not negative. -/
theorem exp_nonneg (x : EReal) : 0 ≤ Ideal.exp x := by
  induction x with
  | bot => exact le_rfl
  | top => exact le_top
  | coe r => exact EReal.coe_nonneg.2 (Real.exp_nonneg r)

/-- Shifting an exponent by a real scales the exponential. -/
theorem exp_sub (x : EReal) (r : ℝ) : Ideal.exp (x - r) = Ideal.exp x * ((Real.exp (-r) : ℝ) : EReal) := by
  induction x with
  | bot => rw [EReal.bot_sub]; exact (zero_mul _).symm
  | top => rw [EReal.top_sub_coe]; exact (EReal.top_mul_coe_of_pos (Real.exp_pos _)).symm
  | coe y =>
    rw [← EReal.coe_sub]
    show ((Real.exp (y - r) : ℝ) : EReal) = ((Real.exp y : ℝ) : EReal) * _
    rw [← EReal.coe_mul, ← Real.exp_add, sub_eq_add_neg]

/-- A real factor that is not negative comes out of a sum of terms that are not. -/
theorem sum_mul_real {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

/-- A logarithm of a scaled value that is not negative is shifted back. -/
theorem log_scaled (S : EReal) (hS : 0 ≤ S) (r : ℝ) : Ideal.log (S * ((Real.exp (-r) : ℝ) : EReal)) + r = Ideal.log S := by
  induction S with
  | bot => exact absurd hS (by simp)
  | top => rw [EReal.top_mul_coe_of_pos (Real.exp_pos _)]; exact EReal.top_add_coe r
  | coe y =>
    have hy : 0 ≤ y := EReal.coe_nonneg.1 hS
    rw [← EReal.coe_mul]
    show (if y * Real.exp (-r) ≤ 0 then ⊥ else ((Real.log (y * Real.exp (-r)) : ℝ) : EReal)) + r = if y ≤ 0 then ⊥ else ((Real.log y : ℝ) : EReal)
    rcases hy.eq_or_lt with h0 | h0
    · rw [← h0, zero_mul, if_pos le_rfl]; exact EReal.bot_add _
    · rw [if_neg (not_le.2 (mul_pos h0 (Real.exp_pos _))), if_neg (not_le.2 h0), Real.log_mul h0.ne' (Real.exp_pos _).ne', Real.log_exp, ← EReal.coe_add]
      congr 1; ring

/-- The shifted logarithm of the summed exponentials, with the shift added back, is the one without a shift. -/
theorem log_sum_exp_shift {ι : Type} [Fintype ι] (x : ι → EReal) (r : ℝ) :
    Ideal.log (∑ i, Ideal.exp (x i - r)) + r = Ideal.log (∑ i, Ideal.exp (x i)) := by
  rw [Finset.sum_congr rfl fun i _ => exp_sub (x i) r, sum_mul_real _ _ fun i => exp_nonneg (x i)]
  exact log_scaled _ (Finset.sum_nonneg fun i _ => exp_nonneg (x i)) r

/-- The word of positive infinity. -/
theorem ofBits_inf : Ideal.ofBits .f32 0x7F800000#32 = ⊤ := by simp [Ideal.ofBits, Ideal.ieee]

/-- A value taken only where its magnitude is finite, and zero elsewhere, is a real. -/
theorem shift_real (t : EReal) : ∃ r : ℝ, Scalar.select (Ideal.cmp .olt (max t (-t)) (Ideal.ofBits .f32 0x7F800000#32)) t (Ideal.ofBits .f32 0x00000000#32) = (r : EReal) := by
  rw [ofBits_inf, Ideal.ofBits_zero_f32]
  induction t with
  | bot => refine ⟨0, ?_⟩; rw [EReal.neg_bot, max_eq_right bot_le]; simp [Ideal.cmp, Scalar.select]
  | top => refine ⟨0, ?_⟩; rw [EReal.neg_top, max_eq_left bot_le]; simp [Ideal.cmp, Scalar.select]
  | coe r =>
    refine ⟨r, ?_⟩
    have h : max (r : EReal) (-(r : EReal)) < ⊤ := max_lt (EReal.coe_lt_top r) (by rw [← EReal.coe_neg]; exact EReal.coe_lt_top _)
    simp [Ideal.cmp, Scalar.select, h]

end Cert.Spec

end
-- ==== Proof.Reference.lean ====
/- The reference's results, read at an index: with every token and target inside the vocabulary its logits are the sums of
   products plus the bias, and its loss is the mean of each row's logarithm of summed exponentials less the target's logit. -/
module

public import proofs.«01_k».proof.Proof.Gen.ReferenceIdeal.Run
public import proofs.«01_k».proof.Proof.Gathers
public import proofs.«01_k».proof.Proof.Spec
public import Idealize.ShloMosaic.Lib.IdealHost
public import Idealize.ShloMosaic.Lib.Pipeline.Value

@[expose] public section

noncomputable section

namespace Cert.ReferenceIdeal.Hand

open Idealize.ShloMosaic Idealize.ShloMosaic.ValueIdx Cert.ReferenceIdeal Cert.ReferenceIdeal.Gen

/-! ## The reference's own terms, named -/

/-- The token row numbers, wrapped. -/
def tokRows (ids : IVec S1x2048 32) : IVec S1x2048x1 32 :=
  broadcastInDim S1x2048x1 ![0, 1] bcast_S1x2048_S1x2048x1_0_1
    (select (cmpi .slt ids (broadcastInDim S1x2048 ![] bcast_S_S1x2048 (constantI S_ 32 0#32))) (addi ids (broadcastInDim S1x2048 ![] bcast_S_S1x2048 (constantI S_ 32 100000#32))) ids)

/-- The tokens' embeddings. -/
def tokens (ids : IVec S1x2048 32) (E : FVec Ideal S100000x128 .f32) : FVec Ideal S1x2048x128 .f32 :=
  select (broadcastInDim S1x2048x128 ![0, 1] bcast_S1x2048_S1x2048x128_0_1 (Host.reduce IntOp.andi (andi (cmpi .sge (tokRows ids) (broadcastInDim S1x2048x1 ![] bcast_S_S1x2048x1 (constantI S_ 32 0#32)))
      (cmpi .sle (tokRows ids) (broadcastInDim S1x2048x1 ![0, 1, 2] bcast_S1x1x1_S1x2048x1_0_1_2 (broadcastInDim S1x1x1 ![2] bcast_S1_S1x1x1_2 (constantI S1 32 99999#32))))) (constantI S_ 1 1#1) reducesTo_S1x2048x1_S1x2048_d2 h_S_))
    (Host.gather gather_S100000x128_S1x2048x1_S1x2048x128_2_0_n_n_0_2_1128 E (tokRows ids)) (broadcastInDim S1x2048x128 ![] bcast_S_S1x2048x128 (constant S_ .f32 0x7FC00000#32))

/-- The position row numbers, wrapped. -/
def posRows : IVec S2048x1 32 :=
  broadcastInDim S2048x1 ![0] bcast_S2048_S2048x1_0
    (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0))

/-- The positions' embeddings. -/
def positions (P : FVec Ideal S2048x128 .f32) : FVec Ideal S2048x128 .f32 :=
  select (broadcastInDim S2048x128 ![0] bcast_S2048_S2048x128_0 (Host.reduce IntOp.andi (andi (cmpi .sge posRows (broadcastInDim S2048x1 ![] bcast_S_S2048x1 (constantI S_ 32 0#32)))
      (cmpi .sle posRows (broadcastInDim S2048x1 ![0, 1] bcast_S1x1_S2048x1_0_1 (broadcastInDim S1x1 ![1] bcast_S1_S1x1_1 (constantI S1 32 2047#32))))) (constantI S_ 1 1#1) reducesTo_S2048x1_S2048_d1 h_S_))
    (Host.gather gather_S2048x128_S2048x1_S2048x128_1_0_n_n_0_1_1128 P posRows) (broadcastInDim S2048x128 ![] bcast_S_S2048x128 (constant S_ .f32 0x7FC00000#32))

/-- The logits. -/
def logits (ids : IVec S1x2048 32) (E : FVec Ideal S100000x128 .f32) (P : FVec Ideal S2048x128 .f32) (W : FVec Ideal S128x100000 .f32) (b : FVec Ideal S100000 .f32) : FVec Ideal S1x2048x100000 .f32 :=
  addf (Host.dotGeneral dot_S1x2048x128_S128x100000_S1x2048x100000_2_0_01_1_n_n none (addf (tokens ids E) (broadcastInDim S1x2048x128 ![1, 2] bcast_S2048x128_S1x2048x128_1_2 (positions P))) W)
    (broadcastInDim S1x2048x100000 ![0, 1, 2] bcast_S1x1x100000_S1x2048x100000_0_1_2 (broadcastInDim S1x1x100000 ![2] bcast_S100000_S1x1x100000_2 b))

/-- A maximum where it is finite, and zero elsewhere. -/
def finiteOrZero (top : FVec Ideal S2048 .f32) : FVec Ideal S2048 .f32 :=
  select (cmpf .olt (Host.absf top) (broadcastInDim S2048 ![] bcast_S_S2048 (constant S_ .f32 0x7F800000#32))) top (broadcastInDim S2048 ![] bcast_S_S2048 (id (constant S_ .f32 0x00000000#32)))

/-- Each row's shift. -/
def shift (x : FVec Ideal S2048x100000 .f32) : FVec Ideal S2048 .f32 :=
  finiteOrZero (Host.reduce FloatOps.maximumf x (constant S_ .f32 0xFF800000#32) reducesTo_S2048x100000_S2048_d1 h_S_)

/-- Each row's logarithm of its summed exponentials. -/
def logZ (x : FVec Ideal S2048x100000 .f32) : FVec Ideal S2048 .f32 :=
  addf (Host.log (Host.reduceAdd (Host.exp (subf x (broadcastInDim S2048x100000 ![0, 1] bcast_S2048x1_S2048x100000_0_1 (broadcastInDim S2048x1 ![0] bcast_S2048_S2048x1_0 (shift x)))))
    (constant S_ .f32 0x00000000#32) reducesTo_S2048x100000_S2048_d1 h_S_)) (shift x)

/-- The target column numbers, wrapped. -/
def tgtCols (tgt : IVec S1x2048 32) : IVec S2048x1x1 32 :=
  shapeCast _ (select (cmpi .slt (broadcastInDim S2048x1 ![0] bcast_S2048_S2048x1_0 (shapeCast _ tgt shapeCasts_S1x2048_S2048)) (broadcastInDim S2048x1 ![] bcast_S_S2048x1 (constantI S_ 32 0#32)))
    (addi (broadcastInDim S2048x1 ![0] bcast_S2048_S2048x1_0 (shapeCast _ tgt shapeCasts_S1x2048_S2048)) (broadcastInDim S2048x1 ![] bcast_S_S2048x1 (constantI S_ 32 100000#32)))
    (broadcastInDim S2048x1 ![0] bcast_S2048_S2048x1_0 (shapeCast _ tgt shapeCasts_S1x2048_S2048))) shapeCasts_S2048x1_S2048x1x1

/-- Each row's entry at its target. -/
def picked (x : FVec Ideal S2048x100000 .f32) (tgt : IVec S1x2048 32) : FVec Ideal S2048 .f32 :=
  shapeCast _ (select (Host.reduce IntOp.andi (andi (cmpi .sge (tgtCols tgt) (broadcastInDim S2048x1x1 ![] bcast_S_S2048x1x1 (constantI S_ 32 0#32)))
      (cmpi .sle (tgtCols tgt) (broadcastInDim S2048x1x1 ![0, 1, 2] bcast_S1x1x1_S2048x1x1_0_1_2 (broadcastInDim S1x1x1 ![2] bcast_S1_S1x1x1_2 (constantI S1 32 99999#32))))) (constantI S_ 1 1#1) reducesTo_S2048x1x1_S2048x1_d2 h_S_)
    (Host.gather gather_S2048x100000_S2048x1x1_S2048x1_n_1_0_0_1_2_11 x (tgtCols tgt)) (broadcastInDim S2048x1 ![] bcast_S_S2048x1 (constant S_ .f32 0x7FC00000#32))) shapeCasts_S2048x1_S2048

/-- The mean loss. -/
def meanLoss (x : FVec Ideal S2048x100000 .f32) (tgt : IVec S1x2048 32) : FVec Ideal S_ .f32 :=
  Host.divf (Host.reduceAdd (subf (logZ x) (picked x tgt)) (constant S_ .f32 0x00000000#32) reducesTo_S2048_S_d0 h_S_) (constant S_ .f32 0x45000000#32)

variable (m : (ℓ : Loc nD τ sig) → Buf (Elt Ideal) ℓ) (c : Dev nD)

/-- The logits of the arguments. -/
abbrev logitsAt : FVec Ideal S1x2048x100000 .f32 :=
  logits (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))

/-- The second result is the mean loss of the flattened logits. -/
theorem res_loss : Value.res_main_v28 m c = meanLoss (shapeCast _ (logitsAt m c) shapeCasts_S1x2048x100000_S2048x100000) (m ((c.tc : Thread nD τ).loc main_arg1)) := rfl

/-- The run: its results are those terms of the arguments, and the arguments stay. -/
theorem run (ρ : Dev nD → PrngReg) :
    θ_run defs (onTc (τ := τ) (main (F := Ideal))) ⟨m, fun _ => 0, ρ⟩ fun r => ∀ c : Dev nD,
      r.2.mem ((c.tc : Thread nD τ).loc main_v8) = logitsAt m c
      ∧ r.2.mem ((c.tc : Thread nD τ).loc main_v28) = meanLoss (shapeCast _ (logitsAt m c) shapeCasts_S1x2048x100000_S2048x100000) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (Value.run m ρ).mono fun _ h c => ⟨(h c).1.trans rfl, (h c).2.1.trans (res_loss m c), (h c).2.2⟩

/-! ## Read at an index -/

section Values

variable (ids tgt : IVec S1x2048 32) (E : FVec Ideal S100000x128 .f32) (P : FVec Ideal S2048x128 .f32) (W : FVec Ideal S128x100000 .f32) (b : FVec Ideal S100000 .f32)

/-- The token row numbers are the tokens. -/
theorem tokRows_apply (h : ∀ i, (ids i).toNat < 100000) (t : Fin 2048) : tokRows ids (ix3 0 t 0) = ids (ix2 0 t) := by
  unfold tokRows
  rw [broadcastInDim_apply _ _ _ _ (ix2 0 t : S1x2048.Idx) (fun a => by match a with | ⟨0, _⟩ => rfl | ⟨1, _⟩ => rfl)]
  exact Gathers.wrap_eq _ _ (by have := h (ix2 0 t); omega)

/-- The tokens' embeddings are the table's rows. -/
theorem tokens_apply (h : ∀ i, (ids i).toNat < 100000) (t : Fin 2048) (k : Fin 128) :
    tokens ids E (ix3 0 t k) = E (ix2 (Spec.row (ids (ix2 0 t))) k) := by
  unfold tokens
  rw [select_apply, broadcastInDim_apply _ _ _ _ (ix2 0 t : S1x2048.Idx) (fun a => by match a with | ⟨0, _⟩ => rfl | ⟨1, _⟩ => rfl),
    Host.reduce_andi_one _ _ _ _ _ rfl (fun i => ?_), select_one]
  · refine Gathers.rows3_apply _ E _ t k _ ?_
    rw [tokRows_apply ids h, Gathers.toInt_toNat _ (by have := h (ix2 0 t); omega), Spec.row_val (h _)]
  · obtain ⟨s, rfl⟩ := Gathers.exists_mid i
    show IntOp.andi (IntOp.cmpi .sge (tokRows ids (ix3 0 s 0)) 0#32) (IntOp.cmpi .sle (tokRows ids (ix3 0 s 0)) 99999#32) = 1#1
    rw [tokRows_apply ids h]
    exact Gathers.test_eq _ _ (by decide) (by have := h (ix2 0 s); show _ ≤ 99999; omega)

/-- The position row numbers count up. -/
theorem posRows_apply (t : Fin 2048) : posRows (ix2 t 0) = BitVec.ofNat 32 t.val := by
  unfold posRows
  rw [broadcastInDim_apply _ _ _ _ (ix1 t : S2048.Idx) (fun a => by match a with | ⟨0, _⟩ => rfl)]
  exact Gathers.wrap_eq (BitVec.ofNat 32 t.val) _ (by rw [BitVec.toNat_ofNat]; have := t.isLt; omega)

/-- The positions' embeddings are the table itself. -/
theorem positions_apply (t : Fin 2048) (k : Fin 128) : positions P (ix2 t k) = P (ix2 t k) := by
  have hw : ∀ t : Fin 2048, (BitVec.ofNat 32 t.val).toNat = t.val := fun t => by rw [BitVec.toNat_ofNat]; have := t.isLt; omega
  unfold positions
  rw [select_apply, broadcastInDim_apply _ _ _ _ (ix1 t : S2048.Idx) (fun a => by match a with | ⟨0, _⟩ => rfl),
    Host.reduce_andi_one _ _ _ _ _ rfl (fun i => ?_), select_one]
  · refine Gathers.rows2_apply _ P _ t k t ?_
    rw [posRows_apply, Gathers.toInt_toNat _ (by rw [hw]; have := t.isLt; omega), hw]
  · obtain ⟨s, rfl⟩ := Gathers.exists_col i
    show IntOp.andi (IntOp.cmpi .sge (posRows (ix2 s 0)) 0#32) (IntOp.cmpi .sle (posRows (ix2 s 0)) 2047#32) = 1#1
    rw [posRows_apply]
    exact Gathers.test_eq _ _ (by decide) (by rw [hw]; have := s.isLt; show _ ≤ 2047; omega)

/-- The logits are the sums of products, plus the bias. -/
theorem logits_apply (h : ∀ i, (ids i).toNat < 100000) (t : Fin 2048) (v : Fin 100000) :
    logits ids E P W b (ix3 0 t v) = Spec.logit ids E P W t v + b (ix1 v) := by
  unfold logits
  rw [addf_apply, broadcastInDim_apply _ _ _ _ (ix3 0 0 v : S1x1x100000.Idx) (fun a => by match a with | ⟨0, _⟩ => rfl | ⟨1, _⟩ => rfl | ⟨2, _⟩ => rfl),
    broadcastInDim_apply _ _ _ _ (ix1 v : S100000.Idx) (fun a => by match a with | ⟨0, _⟩ => rfl)]
  congr 1
  simp only [Host.dotGeneral]
  rw [Ideal.dotGeneral_apply, ← Equiv.sum_comp (contrEquiv1 dot_S1x2048x128_S128x100000_S1x2048x100000_2_0_01_1_n_n 128 rfl rfl).symm]
  refine Finset.sum_congr rfl fun k _ => ?_
  have hl : DotDims.lhsIdx dot_S1x2048x128_S128x100000_S1x2048x100000_2_0_01_1_n_n (ix3 0 t v) ((contrEquiv1 dot_S1x2048x128_S128x100000_S1x2048x100000_2_0_01_1_n_n 128 rfl rfl).symm k) = (ix3 0 t k : S1x2048x128.Idx) := by
    funext a; match a with | ⟨0, _⟩ => rfl | ⟨1, _⟩ => rfl | ⟨2, _⟩ => rfl
  have hr : DotDims.rhsIdx dot_S1x2048x128_S128x100000_S1x2048x100000_2_0_01_1_n_n (ix3 0 t v) ((contrEquiv1 dot_S1x2048x128_S128x100000_S1x2048x100000_2_0_01_1_n_n 128 rfl rfl).symm k) = (ix2 k v : S128x100000.Idx) := by
    funext a; match a with | ⟨0, _⟩ => rfl | ⟨1, _⟩ => rfl
  rw [hl, hr, addf_apply, tokens_apply ids E h, broadcastInDim_apply _ _ _ _ (ix2 t k : S2048x128.Idx) (fun a => by match a with | ⟨0, _⟩ => rfl | ⟨1, _⟩ => rfl), positions_apply]

/-- The flattened logits keep their token and entry. -/
theorem flat_apply (x : FVec Ideal S1x2048x100000 .f32) (t : Fin 2048) (v : Fin 100000) :
    shapeCast S2048x100000 x shapeCasts_S1x2048x100000_S2048x100000 (ix2 t v) = x (ix3 0 t v) :=
  shapeCast_apply x _ (ix2 t v) (ix3 0 t v) (by rw [Shape.rowMajor_val_two, Shape.rowMajor_val_three]; show (0 * 2048 + t.val) * 100000 + v.val = t.val * 100000 + v.val; omega)

variable (x : FVec Ideal S2048x100000 .f32)

/-- That is a real, whatever the maximum. -/
theorem finiteOrZero_apply (top : FVec Ideal S2048 .f32) (t : Fin 2048) : ∃ r : ℝ, finiteOrZero top (ix1 t) = (r : EReal) :=
  Spec.shift_real (top (ix1 t))

/-- Each row's shift is a real. -/
theorem shift_apply (t : Fin 2048) : ∃ r : ℝ, shift x (ix1 t) = (r : EReal) := finiteOrZero_apply _ t

/-- Each row's logarithm of its summed exponentials, whatever the shift. -/
theorem logZ_apply (t : Fin 2048) : logZ x (ix1 t) = Ideal.log (∑ v : Fin 100000, Ideal.exp (x (ix2 t v))) := by
  obtain ⟨r, hr⟩ := shift_apply x t
  rw [← Spec.log_sum_exp_shift (fun v => x (ix2 t v)) r, ← hr]
  unfold logZ
  generalize shift x = s
  rw [addf_apply, Gathers.hostLog_apply, hostReduceAdd_apply, constant_apply, Gathers.rowSum_apply _ (by decide), Ideal.ofBits_zero_f32, zero_add]
  refine congrArg (fun z => Ideal.log z + s (ix1 t)) (Finset.sum_congr rfl fun v _ => ?_)
  rw [Gathers.hostExp_apply, subf_apply, broadcastInDim_apply _ _ _ _ (ix2 t 0 : S2048x1.Idx) (fun a => by match a with | ⟨0, _⟩ => rfl | ⟨1, _⟩ => rfl),
    broadcastInDim_apply _ _ _ _ (ix1 t : S2048.Idx) (fun a => by match a with | ⟨0, _⟩ => rfl)]

/-- The target column numbers are the targets. -/
theorem tgtCols_apply (h : ∀ i, (tgt i).toNat < 100000) (t : Fin 2048) : tgtCols tgt (ix3 t 0 0) = tgt (ix2 0 t) := by
  have e : (broadcastInDim S2048x1 ![0] bcast_S2048_S2048x1_0 (shapeCast S2048 tgt shapeCasts_S1x2048_S2048) : IVec S2048x1 32) (ix2 t 0) = tgt (ix2 0 t) := by
    rw [broadcastInDim_apply _ _ _ _ (ix1 t : S2048.Idx) (fun a => by match a with | ⟨0, _⟩ => rfl)]
    refine (shapeCast_dropUnit_apply ![2048] tgt _ (ix1 t)).trans (congrArg tgt ?_)
    funext a; match a with | ⟨0, _⟩ => rfl | ⟨1, _⟩ => rfl
  unfold tgtCols
  rw [shapeCast_apply _ _ _ (ix2 t 0 : S2048x1.Idx) (by rw [Shape.rowMajor_val_two, Shape.rowMajor_val_three]; show t.val * 1 + 0 = (t.val * 1 + 0) * 1 + 0; omega), select_apply]
  show Scalar.select (IntOp.cmpi .slt ((broadcastInDim S2048x1 ![0] bcast_S2048_S2048x1_0 (shapeCast S2048 tgt shapeCasts_S1x2048_S2048) : IVec S2048x1 32) (ix2 t 0)) 0#32)
    (IntOp.addi ((broadcastInDim S2048x1 ![0] bcast_S2048_S2048x1_0 (shapeCast S2048 tgt shapeCasts_S1x2048_S2048) : IVec S2048x1 32) (ix2 t 0)) 100000#32)
    ((broadcastInDim S2048x1 ![0] bcast_S2048_S2048x1_0 (shapeCast S2048 tgt shapeCasts_S1x2048_S2048) : IVec S2048x1 32) (ix2 t 0)) = _
  rw [e]
  exact Gathers.wrap_eq _ _ (by have := h (ix2 0 t); omega)

/-- Each row's entry at its target. -/
theorem picked_apply (h : ∀ i, (tgt i).toNat < 100000) (t : Fin 2048) : picked x tgt (ix1 t) = x (ix2 t (Spec.row (tgt (ix2 0 t)))) := by
  unfold picked
  rw [shapeCast_apply _ _ _ (ix2 t 0 : S2048x1.Idx) (by rw [Shape.rowMajor_val_two, Shape.rowMajor_val_one]; show t.val * 1 + 0 = t.val; omega), select_apply,
    Host.reduce_andi_one _ _ _ _ _ rfl (fun i => ?_), select_one]
  · refine Gathers.along_apply _ x _ t _ ?_
    rw [tgtCols_apply tgt h, Gathers.toInt_toNat _ (by have := h (ix2 0 t); omega), Spec.row_val (h _)]
  · obtain ⟨s, rfl⟩ := Gathers.exists_head i
    show IntOp.andi (IntOp.cmpi .sge (tgtCols tgt (ix3 s 0 0)) 0#32) (IntOp.cmpi .sle (tgtCols tgt (ix3 s 0 0)) 99999#32) = 1#1
    rw [tgtCols_apply tgt h]
    exact Gathers.test_eq _ _ (by decide) (by have := h (ix2 0 s); show _ ≤ 99999; omega)

/-- The mean loss of an array of logits. -/
theorem meanLoss_apply (h : ∀ i, (tgt i).toNat < 100000) (j : S_.Idx) : meanLoss x tgt j = Spec.loss tgt fun t v => x (ix2 t v) := by
  unfold meanLoss Spec.loss
  rw [hostDivf_apply, hostReduceAdd_apply, constant_apply, constant_apply, Ideal.ofBits_zero_f32,
    Ideal.hostReduceAdd_total _ (fun a => a.elim0), zero_add]
  rw [Gathers.sum_vec]
  refine congrArg (fun z => Ideal.div z (Ideal.ofBits .f32 0x45000000#32)) ?_
  refine Finset.sum_congr rfl fun t _ => ?_
  rw [subf_apply, logZ_apply, picked_apply tgt x h]

end Values

end Cert.ReferenceIdeal.Hand

end
-- ==== Proof.KernelIdeal.Payload.lean ====
/- The projection's computations, read at an index over exact values: the transposed sum, a block's product, the running
   sums of exponentials, the closing loss, and the bias row. -/
module

public import proofs.«01_k».proof.Proof.KernelIdeal.Reads
public import proofs.«01_k».proof.Proof.Gathers
public import proofs.«01_k».proof.Proof.Spec
public import Idealize.ShloMosaic.Lib.IdealHost
public import Idealize.ShloMosaic.Lib.Pointwise.ElementwiseCore

@[expose] public section

set_option maxRecDepth 16384

noncomputable section

namespace Cert.KernelIdeal.Hand

open Cert.KernelIdeal Cert.KernelIdeal.Gen
open Idealize.ShloMosaic Idealize.ShloMosaic.ValueIdx

/-- The transposed sum, entry by entry. -/
theorem pay1_apply (a b : Vec Ideal S2048x128 .f32) (k : Fin 128) (t : Fin 2048) :
    k1_pay1 a b (ix2 k t) = a (ix2 t k) + b (ix2 t k) := by
  unfold k1_pay1
  simp only [shapeCast_self]
  rw [transpose_apply _ _ _ _ (ix2 t k : S2048x128.Idx) (fun b => by match b with | ⟨0, _⟩ => rfl | ⟨1, _⟩ => rfl), addf_apply]

/-- A block's product, entry by entry. -/
theorem pay4_apply (w : Vec Ideal S2000x128 .f32) (x : Vec Ideal S128x2048 .f32) (r : Fin 2000) (t : Fin 2048) :
    k1_pay4 w x (ix2 r t) = ∑ k : Fin 128, w (ix2 r k) * x (ix2 k t) := by
  unfold k1_pay4
  simp only [shapeCast_self, matmul]
  rw [Ideal.matmul_constant_zero_apply, ← Equiv.sum_comp (contrEquiv1 dot_S2000x128_S128x2048_S2000x2048_1_0_0_1_n_n 128 rfl rfl).symm]
  refine Finset.sum_congr rfl fun k _ => ?_
  have hl : DotDims.lhsIdx dot_S2000x128_S128x2048_S2000x2048_1_0_0_1_n_n (ix2 r t) ((contrEquiv1 dot_S2000x128_S128x2048_S2000x2048_1_0_0_1_n_n 128 rfl rfl).symm k) = (ix2 r k : S2000x128.Idx) := by
    funext a; match a with | ⟨0, _⟩ => rfl | ⟨1, _⟩ => rfl
  have hr : DotDims.rhsIdx dot_S2000x128_S128x2048_S2000x2048_1_0_0_1_n_n (ix2 r t) ((contrEquiv1 dot_S2000x128_S128x2048_S2000x2048_1_0_0_1_n_n 128 rfl rfl).symm k) = (ix2 k t : S128x2048.Idx) := by
    funext a; match a with | ⟨0, _⟩ => rfl | ⟨1, _⟩ => rfl
  rw [hl, hr]

/-- What is written back of it. -/
theorem pay5_apply (w : Vec Ideal S2000x128 .f32) (x : Vec Ideal S128x2048 .f32) (r : Fin 2000) (t : Fin 2048) :
    k1_pay5 w x (ix3 0 r t) = k1_pay4 w x (ix2 r t) := by
  unfold k1_pay5
  exact shapeCast_apply _ _ _ (ix2 r t : S2000x2048.Idx) (by rw [Shape.rowMajor_val_two, Shape.rowMajor_val_three]; show r.val * 2048 + t.val = (0 * 2000 + r.val) * 2048 + t.val; omega)

/-- The ones. -/
theorem pay3_apply (i : S8x2000.Idx) : k1_pay3 (F := Ideal) i = 1 := by
  unfold k1_pay3
  rw [shapeCast_self]
  exact Ideal.ofBits_one_f32

/-- The running sums start at zero. -/
theorem pay2_apply (i : S8x2048.Idx) : k1_pay2 (F := Ideal) i = 0 := by
  unfold k1_pay2
  rw [shapeCast_self]
  exact Ideal.ofBits_zero_f32

/-- The ones against a block: its columns summed. -/
theorem ones_apply (x : FVec Ideal S2000x2048 .f32) (e : Fin 8) (t : Fin 2048) :
    FloatOps.matmul dot_S8x2000_S2000x2048_S8x2048_1_0_0_1_n_n none (k1_pay3 (F := Ideal)) x (constant S8x2048 .f32 0x00000000#32) (ix2 e t)
      = ∑ r : Fin 2000, x (ix2 r t) := by
  rw [Ideal.matmul_constant_zero_apply, ← Equiv.sum_comp (contrEquiv1 dot_S8x2000_S2000x2048_S8x2048_1_0_0_1_n_n 2000 rfl rfl).symm]
  refine Finset.sum_congr rfl fun k _ => ?_
  have hr : DotDims.rhsIdx dot_S8x2000_S2000x2048_S8x2048_1_0_0_1_n_n (ix2 e t) ((contrEquiv1 dot_S8x2000_S2000x2048_S8x2048_1_0_0_1_n_n 2000 rfl rfl).symm k) = (ix2 k t : S2000x2048.Idx) := by
    funext a; match a with | ⟨0, _⟩ => rfl | ⟨1, _⟩ => rfl
  rw [hr, pay3_apply, one_mul]

/-- A step of the running sums adds the block's exponentials. -/
theorem pay7_apply (w : Vec Ideal S2000x128 .f32) (x : Vec Ideal S128x2048 .f32) (s : Vec Ideal S8x2048 .f32) (e : Fin 8) (t : Fin 2048) :
    k1_pay7 w x s (k1_pay3 (F := Ideal)) (ix2 e t) = s (ix2 e t) + ∑ r : Fin 2000, Ideal.exp (k1_pay4 w x (ix2 r t)) := by
  unfold k1_pay7
  simp only [shapeCast_self, matmul]
  rw [addf_apply, ones_apply]
  rfl

/-- The last step's test passes at every row. -/
theorem tail_test (g r : ℕ) (hg : g < 50) (hr : r < 2000) :
    IntOp.cmpi .slt (IntOp.addi (Scalar.muli (BitVec.ofNat 32 g) 2000#32) (BitVec.ofNat 32 r)) 100000#32 = 1#1 := by
  have e : (IntOp.addi (Scalar.muli (BitVec.ofNat 32 g) 2000#32) (BitVec.ofNat 32 r)).toNat = g * 2000 + r := by
    show (BitVec.ofNat 32 g * 2000#32 + BitVec.ofNat 32 r).toNat = _
    rw [BitVec.toNat_add, BitVec.toNat_mul, BitVec.toNat_ofNat, BitVec.toNat_ofNat, BitVec.toNat_ofNat]
    omega
  refine (StableHlo.Predicate.slt_iff_toNat (by rw [e]; omega) (by decide)).2 ?_
  rw [e]; show _ < 100000; omega

/-- The last step adds the block's exponentials too. -/
theorem pay8_apply (i : grid1.Coords) (w : Vec Ideal S2000x128 .f32) (x : Vec Ideal S128x2048 .f32) (s : Vec Ideal S8x2048 .f32) (e : Fin 8) (t : Fin 2048) :
    k1_pay8 i w x s (k1_pay3 (F := Ideal)) (ix2 e t) = s (ix2 e t) + ∑ r : Fin 2000, Ideal.exp (k1_pay4 w x (ix2 r t)) := by
  unfold k1_pay8
  simp only [shapeCast_self, matmul]
  rw [addf_apply, ones_apply]
  refine congrArg (s (ix2 e t) + ·) (Finset.sum_congr rfl fun r _ => ?_)
  rw [select_apply]
  refine (congrArg (fun b => Scalar.select b _ _) ?_).trans (select_one _ _)
  show IntOp.cmpi .slt (IntOp.addi (Scalar.muli (BitVec.ofNat 32 (i 0).val) 2000#32) (iota .tc S2000x2048 32 [0] iota_S2000x2048_d0_w32 (ix2 r t))) 100000#32 = 1#1
  rw [iota_single_apply]
  exact tail_test _ _ (i 0).isLt r.isLt

/-- The columns of a matrix summed. -/
theorem colSum_apply (y : FVec Ideal S128x2048 .f32) (t : Fin 2048) :
    multiReduction .add [0] S2048 y 0x00000000#32 reduces_S128x2048_S2048 (.inl rfl) rfl (ix1 t) = ∑ k : Fin 128, y (ix2 k t) := by
  refine (Ideal.multiReduction_add_single y _ reduces_S128x2048_S2048 (.inl rfl) rfl (ix1 t)).trans (Finset.sum_congr rfl fun k _ => congrArg y ?_)
  funext a; match a with | ⟨0, _⟩ => rfl | ⟨1, _⟩ => rfl

/-- A row summed. -/
theorem total_apply (y : FVec Ideal S1x2048 .f32) :
    multiReduction .add [1, 2] S1 (shapeCast S1x1x2048 y shapeCasts_S1x2048_S1x1x2048) 0x00000000#32 reduces_S1x1x2048_S1 (.inl rfl) rfl (ix1 0)
      = ∑ t : Fin 2048, y (ix2 0 t) := by
  refine (Ideal.multiReduction_add_total _ _ reduces_S1x1x2048_S1 (fun b => by match b with | ⟨0, _⟩ => rfl) (.inl rfl) rfl (ix1 0)).trans ?_
  refine (Equiv.sum_comp (Shape.reshapeEquiv shapeCasts_S1x2048_S1x1x2048) y).trans ?_
  rw [sum_idx2, Fin.sum_univ_one]

/-- The one entry of a one-entry array. -/
theorem one_apply (y : FVec Ideal S1 .f32) :
    extractAt ![0, 0, 0] (shapeCast S1x1x1 y shapeCasts_S1_S1x1x1) inpos_S1x1x1_p0_0_0 = y (ix1 0) := by
  unfold extractAt
  exact shapeCast_apply _ _ _ (ix1 0 : S1.Idx) (by rw [Shape.rowMajor_val_one, Shape.rowMajor_val_three]; rfl)

/-- A vector as a row. -/
theorem asRow_apply {α : Type} (y : S2048.Idx → α) (t : Fin 2048) : shapeCast S1x2048 y shapeCasts_S2048_S1x2048 (ix2 0 t) = y (ix1 t) :=
  shapeCast_apply _ _ _ (ix1 t : S2048.Idx) (by rw [Shape.rowMajor_val_one, Shape.rowMajor_val_two]; show t.val = 0 * 2048 + t.val; omega)

/-- A row as a vector. -/
theorem asVec_apply {α : Type} (y : S1x2048.Idx → α) (t : Fin 2048) : shapeCast S2048 y shapeCasts_S1x2048_S2048 (ix1 t) = y (ix2 0 t) :=
  shapeCast_apply _ _ _ (ix2 0 t : S1x2048.Idx) (by rw [Shape.rowMajor_val_one, Shape.rowMajor_val_two]; show 0 * 2048 + t.val = t.val; omega)

/-- The loss, from the sums, the transposed sum, the target rows and the bias row. -/
theorem pay9_eq (s : Vec Ideal S1x2048 .f32) (x : Vec Ideal S128x2048 .f32) (g : Vec Ideal S2048x128 .f32) (b : Vec Ideal S1x2048 .f32) :
    k1_pay9 s x g b = Ideal.div (∑ t : Fin 2048, (Ideal.log (s (ix2 0 t)) - ((∑ k : Fin 128, x (ix2 k t) * g (ix2 t k)) + b (ix2 0 t))))
      (Ideal.ofBits .f32 0x45000000#32) := by
  unfold k1_pay9
  simp only [shapeCast_self]
  refine congrArg (fun z => Ideal.div z (Ideal.ofBits .f32 0x45000000#32)) ?_
  refine (one_apply _).trans ((total_apply _).trans (Finset.sum_congr rfl fun t _ => ?_))
  refine congrArg (fun z => Ideal.log (s (ix2 0 t)) - (z + b (ix2 0 t))) ?_
  refine (asRow_apply _ t).trans ((colSum_apply _ t).trans (Finset.sum_congr rfl fun k _ => ?_))
  refine congrArg (fun z => x (ix2 k t) * z) ?_
  exact transpose_apply _ _ _ _ (ix2 t k : S2048x128.Idx) (fun b => by match b with | ⟨0, _⟩ => rfl | ⟨1, _⟩ => rfl)

/-- The bias row of a zero bias is zero, when the targets name entries. -/
theorem takeOf_zero (x : FVec Ideal S100000 .f32) (hx : ∀ i, x i = 0) (t : IVec S2048 32) (ht : ∀ i, (t i).toNat < 100000) (k : S2048.Idx) :
    takeOf x t k = 0 := by
  unfold takeOf
  rw [select_apply, Host.reduce_andi_one _ _ _ _ _ rfl (fun i => ?_), select_one]
  · exact hx _
  · obtain ⟨s, rfl⟩ := Gathers.exists_col i
    show IntOp.andi (IntOp.cmpi .sge (Scalar.select (IntOp.cmpi .slt (t _) 0#32) (IntOp.addi (t _) 100000#32) (t _)) 0#32)
      (IntOp.cmpi .sle (Scalar.select (IntOp.cmpi .slt (t _) 0#32) (IntOp.addi (t _) 100000#32) (t _)) 99999#32) = 1#1
    rw [Gathers.wrap_eq _ _ (lt_trans (ht _) (by decide))]
    exact Gathers.test_eq _ _ (by decide) (show _ ≤ 99999 from Nat.le_of_lt_succ (ht _))

end Cert.KernelIdeal.Hand

end
-- ==== Proof.KernelIdeal.Value.lean ====
/- The program's two results over exact values: the logits, and the mean loss. -/
module

public import proofs.«01_k».proof.Proof.KernelIdeal.Payload
public import Idealize.ShloMosaic.Lib.Pipeline.ValueKit.Acc

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The projection's blocks -/

/-- What the projection reads: the tokens' rows, -/
def vTok (c : Dev nD) : FVec Ideal S2048x128 .f32 := V c main_v3_0
/-- the positions' rows, -/
def vPos (c : Dev nD) : FVec Ideal S2048x128 .f32 := V c main_arg3
/-- the output table, a row per entry, -/
def vOut (c : Dev nD) : FVec Ideal S100000x128 .f32 := V c main_v2
/-- the targets' rows of it, -/
def vTgt (c : Dev nD) : FVec Ideal S2048x128 .f32 := V c main_v3_1
/-- and the bias at the targets. -/
def vBias (c : Dev nD) : FVec Ideal S1x2048 .f32 := V c main_v5

/-- The third window's block at point `t` is the `t`-th of its array, -/
theorem index_2 : ∀ t : Fin cfg1.N, cc1_transform_2 (grid1.coords t) 0 = t.val ∧ cc1_transform_2 (grid1.coords t) 1 = 0 := by decide +kernel
/-- as is the sixth window's, along its middle axis. -/
theorem index_5 : ∀ t : Fin cfg1.N, cc1_transform_5 (grid1.coords t) 0 = 0 ∧ cc1_transform_5 (grid1.coords t) 1 = t.val ∧ cc1_transform_5 (grid1.coords t) 2 = 0 := by decide +kernel

/-- The tokens' rows are read whole, -/
theorem iblk_0_apply (c : Dev nD) (t : Fin cfg1.N) (a : Fin 2048) (k : Fin 128) :
    (iblk V c 0 t : Vec Ideal S2048x128 .f32) (ix2 a k) = (vTok V c) (ix2 a k) := by
  refine congrArg (vTok V c) (funext fun x => Fin.ext ?_)
  match x with
  | ⟨0, _⟩ => show 0 * 2048 + 1 * a.val = a.val; omega
  | ⟨1, _⟩ => show 0 * 128 + 1 * k.val = k.val; omega

/-- as are the positions' rows. -/
theorem iblk_1_apply (c : Dev nD) (t : Fin cfg1.N) (a : Fin 2048) (k : Fin 128) :
    (iblk V c 1 t : Vec Ideal S2048x128 .f32) (ix2 a k) = (vPos V c) (ix2 a k) := by
  refine congrArg (vPos V c) (funext fun x => Fin.ext ?_)
  match x with
  | ⟨0, _⟩ => show 0 * 2048 + 1 * a.val = a.val; omega
  | ⟨1, _⟩ => show 0 * 128 + 1 * k.val = k.val; omega

/-- The third window's block is a stretch of 2000 rows of the output table. -/
theorem iblk_2_apply (c : Dev nD) (t : Fin cfg1.N) (r : Fin 2000) (k : Fin 128) (v : Fin 100000) (hv : v.val = t.val * 2000 + r.val) :
    (iblk V c 2 t : Vec Ideal S2000x128 .f32) (ix2 r k) = (vOut V c) (ix2 v k) := by
  refine congrArg (vOut V c) (funext fun x => Fin.ext ?_)
  match x with
  | ⟨0, _⟩ => show cc1_transform_2 (grid1.coords t) 0 * 2000 + 1 * r.val = v.val; rw [(index_2 t).1]; omega
  | ⟨1, _⟩ => show cc1_transform_2 (grid1.coords t) 1 * 128 + 1 * k.val = k.val; rw [(index_2 t).2]; omega

/-- The targets' rows are read whole, -/
theorem iblk_3_apply (c : Dev nD) (t : Fin cfg1.N) (a : Fin 2048) (k : Fin 128) :
    (iblk V c 3 t : Vec Ideal S2048x128 .f32) (ix2 a k) = (vTgt V c) (ix2 a k) := by
  refine congrArg (vTgt V c) (funext fun x => Fin.ext ?_)
  match x with
  | ⟨0, _⟩ => show 0 * 2048 + 1 * a.val = a.val; omega
  | ⟨1, _⟩ => show 0 * 128 + 1 * k.val = k.val; omega

/-- as is the bias row. -/
theorem iblk_4_apply (c : Dev nD) (t : Fin cfg1.N) (a : Fin 2048) :
    (iblk V c 4 t : Vec Ideal S1x2048 .f32) (ix2 0 a) = (vBias V c) (ix2 0 a) := by
  refine congrArg (vBias V c) (funext fun x => Fin.ext ?_)
  match x with
  | ⟨0, _⟩ => show 0 * 1 + 1 * 0 = 0; omega
  | ⟨1, _⟩ => show 0 * 2048 + 1 * a.val = a.val; omega

/-! ## The logits, in terms of what the projection reads -/

/-- Token `t`'s logit of entry `v`: the output table's row against the sum of the token's row and its position's. -/
def proj (c : Dev nD) (t : Fin 2048) (v : Fin 100000) : EReal :=
  ∑ k : Fin 128, (vOut V c) (ix2 v k)
    * ((vTok V c) (ix2 t k) + (vPos V c) (ix2 t k))

/-- The transposed sum, entry by entry. -/
theorem combT_apply (c : Dev nD) (k : Fin 128) (t : Fin 2048) : combT V c (ix2 k t)
    = (vTok V c) (ix2 t k) + (vPos V c) (ix2 t k) := by
  unfold combT
  rw [pay1_apply]
  exact congrArg₂ (· + ·) (iblk_0_apply V c t₀ t k) (iblk_1_apply V c t₀ t k)

/-- A block's product holds its entries' logits. -/
theorem block_apply (c : Dev nD) (n : Fin cfg1.N) (r : Fin 2000) (t : Fin 2048) (v : Fin 100000) (hv : v.val = n.val * 2000 + r.val) :
    k1_pay4 (iblk V c 2 n) (combT V c) (ix2 r t) = proj V c t v := by
  rw [pay4_apply]
  exact Finset.sum_congr rfl fun k _ => congrArg₂ (· * ·) (iblk_2_apply V c n r k v hv) (combT_apply V c k t)

/-! ## The first output -/

/-- The first output, whole. -/
def allLogits (c : Dev nD) : S1x100000x2048.Idx → Elt Ideal .f32 := fun i => proj V c (i 2) (i 1)

/-- Where entry `(0, r, s)` of block `t` lies. -/
theorem emb_5 (t : Fin cfg1.N) (r : Fin 2000) (s : Fin 2048) (v : Fin 100000) (hv : v.val = t.val * 2000 + r.val) :
    ((cfg1.win 5).blk t).view.emb (ix3 0 r s : S1x2000x2048.Idx) = (ix3 0 v s : S1x100000x2048.Idx) := by
  funext x; apply Fin.ext
  match x with
  | ⟨0, _⟩ => show cc1_transform_5 (grid1.coords t) 0 * 1 + 1 * 0 = 0; rw [(index_5 t).1]
  | ⟨1, _⟩ => show cc1_transform_5 (grid1.coords t) 1 * 2000 + 1 * r.val = v.val; rw [(index_5 t).2.1]; omega
  | ⟨2, _⟩ => show cc1_transform_5 (grid1.coords t) 2 * 2048 + 1 * s.val = s.val; rw [(index_5 t).2.2]; omega

/-- An index of a block. -/
theorem exists_block (y : S1x2000x2048.Idx) : ∃ (r : Fin 2000) (s : Fin 2048), y = ix3 0 r s :=
  ⟨y 1, y 2, funext fun a => match a with
    | ⟨0, _⟩ => Fin.ext (Nat.lt_one_iff.1 (y 0).isLt)
    | ⟨1, _⟩ => rfl
    | ⟨2, _⟩ => rfl⟩

/-- There are 50 points. -/
theorem lt_N (t : Fin cfg1.N) : t.val < 50 := lt_of_lt_of_eq t.isLt N_1

/-- What each point writes back is its block of the logits. -/
theorem flushed_5 (c : Dev nD) (t : Fin cfg1.N) (y : S1x2000x2048.Idx) :
    ((dats V 0 c).flushed 5 t : S1x2000x2048.Idx → Elt Ideal .f32) y = allLogits V c (((cfg1.win 5).blk t).view.emb y) := by
  obtain ⟨r, s, rfl⟩ := exists_block y
  have hv : t.val * 2000 + r.val < 100000 := by have := lt_N t; omega
  rw [emb_5 t r s ⟨t.val * 2000 + r.val, hv⟩ rfl]
  show (dats V 0 c).after 5 t (ix3 0 r s : S1x2000x2048.Idx) = _
  rw [after_5]
  exact (pay5_apply _ _ r s).trans (block_apply V c t r s _ rfl)

/-- The first output ends holding the logits. -/
theorem arrAt_5 (c : Dev nD) : (dats V 0 c).arrAt 5 cfg1.N = allLogits V c := by
  refine (dats V 0 c).arrAt_eq_of_cover 5 (allLogits V c) (fun t _ => funext fun y => flushed_5 V c t y) fun i => ?_
  obtain ⟨v, s, rfl⟩ : ∃ (v : Fin 100000) (s : Fin 2048), i = (ix3 0 v s : S1x100000x2048.Idx) :=
    ⟨(i : S1x100000x2048.Idx) 1, (i : S1x100000x2048.Idx) 2, funext fun a => match a with
      | ⟨0, _⟩ => Fin.ext (Nat.lt_one_iff.1 ((i : S1x100000x2048.Idx) 0).isLt)
      | ⟨1, _⟩ => rfl
      | ⟨2, _⟩ => rfl⟩
  have hN : v.val / 2000 < cfg1.N := by have := v.isLt; have : cfg1.N = 50 := N_1; omega
  have e := emb_5 ⟨v.val / 2000, hN⟩ ⟨v.val % 2000, Nat.mod_lt _ (by decide)⟩ s v (by show v.val = v.val / 2000 * 2000 + v.val % 2000; omega)
  exact ⟨⟨v.val / 2000, hN⟩, flush1_5 _, Eq.subst (motive := fun i : S1x100000x2048.Idx => i ∈ ((cfg1.win 5).blk ⟨v.val / 2000, hN⟩).view.set) e (View.emb_mem_set _ _)⟩

/-! ## The second output -/

/-- An entry's exponential, zero beyond the table. -/
def expAt (c : Dev nD) (t : Fin 2048) (n : ℕ) : EReal := if h : n < 100000 then Ideal.exp (proj V c t ⟨n, h⟩) else 0

/-- The exponentials of a block, summed. -/
theorem block_sum (c : Dev nD) (n : Fin cfg1.N) (t : Fin 2048) :
    ∑ r : Fin 2000, Ideal.exp (k1_pay4 (iblk V c 2 n) (combT V c) (ix2 r t)) = ∑ r : Fin 2000, expAt V c t (n.val * 2000 + r.val) := by
  refine Finset.sum_congr rfl fun r _ => ?_
  have hv : n.val * 2000 + r.val < 100000 := by have := lt_N n; omega
  rw [block_apply V c n r t ⟨_, hv⟩ rfl, expAt, dif_pos hv]

/-- The running sums before point `n`. -/
theorem sums_apply (c : Dev nD) (e : Fin 8) (t : Fin 2048) : ∀ n : ℕ, n ≤ 50 →
    sums V c n (ix2 e t) = ∑ s ∈ Finset.range n, ∑ r : Fin 2000, expAt V c t (s * 2000 + r.val)
  | 0, _ => by rw [Finset.sum_range_zero]; exact pay2_apply _
  | n + 1, h => by
    have hn : n < cfg1.N := by have : cfg1.N = 50 := N_1; omega
    rw [Finset.sum_range_succ, ← sums_apply c e t n (by omega)]
    by_cases h49 : n < 49
    · rw [sums_early V c ⟨n, hn⟩ h49]
      exact (pay7_apply _ _ _ e t).trans (congrArg (sums V c n (ix2 e t) + ·) (block_sum V c ⟨n, hn⟩ t))
    · rw [sums_last V c ⟨n, hn⟩ h49]
      exact (pay8_apply _ _ _ _ e t).trans (congrArg (sums V c n (ix2 e t) + ·) (block_sum V c ⟨n, hn⟩ t))

/-- After the sweep they hold every entry's exponential. -/
theorem sums_all (c : Dev nD) (e : Fin 8) (t : Fin 2048) : sums V c 50 (ix2 e t) = ∑ v : Fin 100000, Ideal.exp (proj V c t v) := by
  rw [sums_apply V c e t 50 le_rfl, ← Fin.sum_univ_eq_sum_range fun s => ∑ r : Fin 2000, expAt V c t (s * 2000 + r.val)]
  exact Fin.sum_mul_add_congr fun s r hl => by rw [expAt, dif_pos hl]

/-- The first row of eight. -/
theorem row0_apply (x : Vec Ideal S8x2048 .f32) (t : Fin 2048) : row0 x (ix2 0 t) = x (ix2 0 t) := by
  refine congrArg x (funext fun a => Fin.ext ?_)
  match a with
  | ⟨0, _⟩ => rfl
  | ⟨1, _⟩ => show 0 + 1 * t.val = t.val; omega

/-- The last point. -/
def tLast : Fin cfg1.N := ⟨49, by have : cfg1.N = 50 := N_1; omega⟩

/-- The loss the last point stores. -/
theorem lossOf_eq (c : Dev nD) : lossOf V c tLast = fun _ => Ideal.div
    (∑ t : Fin 2048, (Ideal.log (∑ v : Fin 100000, Ideal.exp (proj V c t v))
      - ((∑ k : Fin 128, ((vTok V c) (ix2 t k) + (vPos V c) (ix2 t k))
          * (vTgt V c) (ix2 t k)) + (vBias V c) (ix2 0 t))))
    (Ideal.ofBits .f32 0x45000000#32) := by
  funext _
  refine (pay9_eq _ _ _ _).trans (congrArg (fun z => Ideal.div z (Ideal.ofBits .f32 0x45000000#32)) (Finset.sum_congr rfl fun t _ => ?_))
  refine congrArg₂ (fun a b => Ideal.log a - b) ((row0_apply _ t).trans (sums_all V c 0 t)) (congrArg₂ (· + ·) (Finset.sum_congr rfl fun k _ => ?_) (iblk_4_apply V c tLast t))
  exact congrArg₂ (· * ·) (combT_apply V c k t) (iblk_3_apply V c tLast t k)

/-- The second output ends holding the loss. -/
theorem arrAt_6 (c : Dev nD) : (dats V 0 c).arrAt 6 cfg1.N = lossOf V c tLast := by
  refine (dats V 0 c).arrAt_eq_of_cover 6 (lossOf V c tLast) (fun t hf => ?_) fun i => ?_
  · have ht : t = tLast := Fin.ext (by have := (flush1_6 t).1 hf; have := lt_N t; show t.val = 49; omega)
    subst ht
    funext y
    show (dats V 0 c).after 6 tLast (y : S1x1.Idx) = _
    rw [after_6]
    rfl
  · refine ⟨tLast, (flush1_6 tLast).2 rfl, ?_⟩
    have e : ((cfg1.win 6).blk tLast).view.emb (i : S1x1.Idx) = i := by
      funext a
      match a with
      | ⟨0, _⟩ => exact Fin.ext ((Nat.lt_one_iff.1 (Fin.isLt _)).trans (Nat.lt_one_iff.1 ((i : S1x1.Idx) 0).isLt).symm)
      | ⟨1, _⟩ => exact Fin.ext ((Nat.lt_one_iff.1 (Fin.isLt _)).trans (Nat.lt_one_iff.1 ((i : S1x1.Idx) 1).isLt).symm)
    exact e ▸ View.emb_mem_set _ _

end Cert.KernelIdeal.Hand

end
-- ==== Proof.KernelIdeal.Results.lean ====
/- The program's results in terms of its arguments, when the tokens and the targets name entries of the vocabulary and the
   bias is zero: the logits of the embedded tokens, and their mean loss. -/
module

public import proofs.«01_k».proof.Proof.KernelIdeal.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

/-- A row looked up, when the list names one. -/
theorem gRows_apply (tab : FVec Ideal S100000x128 .f32) (idx : IVec S2048 32) (t : Fin 2048) (k : Fin 128) (w : BitVec 32)
    (hw : idx (ix1 t) = w) (h : w.toNat < 100000) : gRows (F := Ideal) tab idx (ix2 t k) = tab (ix2 (Spec.row w) k) := by
  subst hw
  have hl : listIx t = ix1 t := by funext a; match a with | ⟨0, _⟩ => rfl
  refine congrArg tab (funext fun a => Fin.ext ?_)
  match a with
  | ⟨0, _⟩ =>
    show (idx (listIx t)).toNat % 100000 = (Spec.row (idx (ix1 t))).val
    rw [hl, Spec.row_val h, Nat.mod_eq_of_lt h]
  | ⟨1, _⟩ => rfl

/-- A column of the head's table is a row of it transposed. -/
theorem head_apply (W : FVec Ideal S128x100000 .f32) (v : Fin 100000) (k : Fin 128) :
    transpose S100000x128 [1, 0] W transposes_S128x100000_S100000x128_1_0 (ix2 v k) = W (ix2 k v) :=
  transpose_apply _ _ _ _ (ix2 k v : S128x100000.Idx) (fun b => by match b with | ⟨0, _⟩ => rfl | ⟨1, _⟩ => rfl)

/-- The logits' axes put in order. -/
theorem order_apply (x : S1x100000x2048.Idx → Elt Ideal .f32) (t : Fin 2048) (v : Fin 100000) :
    transpose S1x2048x100000 [0, 2, 1] x transposes_S1x100000x2048_S1x2048x100000_0_2_1 (ix3 0 t v) = x (ix3 0 v t) :=
  transpose_apply _ _ _ _ (ix3 0 v t : S1x100000x2048.Idx) (fun b => by match b with | ⟨0, _⟩ => rfl | ⟨1, _⟩ => rfl | ⟨2, _⟩ => rfl)

section Results

variable (m : (ℓ : Loc nD τ sig) → Buf (Elt Ideal) ℓ) (d : Dev nD)

/-- The arguments: the tokens, -/
def ids : IVec S1x2048 32 := m ((d.tc : Thread nD τ).loc main_arg0)
/-- the targets, -/
def tgt : IVec S1x2048 32 := m ((d.tc : Thread nD τ).loc main_arg1)
/-- the token table, -/
def tok : FVec Ideal S100000x128 .f32 := m ((d.tc : Thread nD τ).loc main_arg2)
/-- the position table, -/
def pos : FVec Ideal S2048x128 .f32 := m ((d.tc : Thread nD τ).loc main_arg3)
/-- the head's table -/
def headW : FVec Ideal S128x100000 .f32 := m ((d.tc : Thread nD τ).loc main_arg4)
/-- and its bias. -/
def bias : FVec Ideal S100000 .f32 := m ((d.tc : Thread nD τ).loc main_arg5)

/-- The projection's token rows are those the tokens name in the token table, -/
theorem vTok_eq : vTok (atRef (V3 m)) d = gRows (F := Ideal) (tok m d) (shapeCast S2048 (ids m d) shapeCasts_S1x2048_S2048) :=
  (V3_v3_0 m d).trans (by rw [Im_tA, Im_iA]; rfl)
/-- its position rows the position table, -/
theorem vPos_eq : vPos (atRef (V3 m)) d = pos m d := V3_arg3 m d
/-- its output table the head's table transposed, -/
theorem vOut_eq : vOut (atRef (V3 m)) d = transpose S100000x128 [1, 0] (headW m d) transposes_S128x100000_S100000x128_1_0 := V3_v2 m d
/-- its target rows those the targets name in that, -/
theorem vTgt_eq : vTgt (atRef (V3 m)) d
    = gRows (F := Ideal) (transpose S100000x128 [1, 0] (headW m d) transposes_S128x100000_S100000x128_1_0) (shapeCast S2048 (tgt m d) shapeCasts_S1x2048_S2048) :=
  (V3_v3_1 m d).trans (by rw [Im_tB, Im_iB]; rfl)
/-- and its bias row the bias at the targets. -/
theorem vBias_eq : vBias (atRef (V3 m)) d
    = shapeCast S1x2048 (takeOf (bias m d) (shapeCast S2048 (tgt m d) shapeCasts_S1x2048_S2048)) shapeCasts_S2048_S1x2048 := V3_v5 m d

variable (h0 : ∀ i, (ids m d i).toNat < 100000) (h1 : ∀ i, (tgt m d i).toNat < 100000) (hb : ∀ i, bias m d i = 0)

include h0 in
/-- A token's row and its position's, summed. -/
theorem emb_apply (t : Fin 2048) (k : Fin 128) : vTok (atRef (V3 m)) d (ix2 t k) + vPos (atRef (V3 m)) d (ix2 t k)
    = tok m d (ix2 (Spec.row (ids m d (ix2 0 t))) k) + pos m d (ix2 t k) := by
  rw [vTok_eq, vPos_eq, gRows_apply _ _ t k _ (asVec_apply (ids m d) t) (h0 _)]

include h0 in
/-- The projection's logits are the specification's. -/
theorem proj_eq (t : Fin 2048) (v : Fin 100000) :
    proj (atRef (V3 m)) d t v = Spec.logit (ids m d) (tok m d) (pos m d) (headW m d) t v := by
  refine Finset.sum_congr rfl fun k _ => ?_
  rw [emb_apply m d h0, vOut_eq, head_apply, mul_comm]

include h0 in
/-- The first result: the logits. -/
theorem result0 (t : Fin 2048) (v : Fin 100000) :
    (V5 m d (Proc.devRef .tc main_v7) : S1x2048x100000.Idx → Elt Ideal .f32) (ix3 0 t v)
      = Spec.logit (ids m d) (tok m d) (pos m d) (headW m d) t v := by
  rw [V5_v7]
  refine (order_apply _ t v).trans ?_
  rw [arrAt_5]
  exact proj_eq m d h0 t v

include h1 hb in
/-- The bias row is zero. -/
theorem vBias_apply (t : Fin 2048) : vBias (atRef (V3 m)) d (ix2 0 t) = 0 := by
  rw [vBias_eq, asRow_apply]
  exact takeOf_zero _ hb _ (fun i => h1 _) _

include h0 h1 in
/-- The target's logit, from the rows looked up. -/
theorem target_apply (t : Fin 2048) :
    ∑ k : Fin 128, (vTok (atRef (V3 m)) d (ix2 t k) + vPos (atRef (V3 m)) d (ix2 t k)) * vTgt (atRef (V3 m)) d (ix2 t k)
      = Spec.logit (ids m d) (tok m d) (pos m d) (headW m d) t (Spec.row (tgt m d (ix2 0 t))) := by
  refine Finset.sum_congr rfl fun k _ => ?_
  rw [emb_apply m d h0, vTgt_eq, gRows_apply _ _ t k _ (asVec_apply (tgt m d) t) (h1 _), head_apply]

include h0 h1 hb in
/-- The second result: the mean loss. -/
theorem result1 (j : S_.Idx) : (V5 m d (Proc.devRef .tc main_v8) : S_.Idx → Elt Ideal .f32) j
    = Spec.loss (tgt m d) (Spec.logit (ids m d) (tok m d) (pos m d) (headW m d)) := by
  rw [V5_v8, arrAt_6, lossOf_eq]
  refine congrArg (fun z => Ideal.div z (Ideal.ofBits .f32 0x45000000#32)) (Finset.sum_congr rfl fun t _ => ?_)
  rw [target_apply m d h0 h1, vBias_apply m d h1 hb, add_zero, Finset.sum_congr rfl fun v _ => congrArg Ideal.exp (proj_eq m d h0 t v)]

end Results

end Cert.KernelIdeal.Hand

end
-- ==== Proof.Algebraic.lean ====
/- The value claim: over exact values, from memories that agree on the arguments, the kernel and the reference end with the
   same logits and the same mean loss. -/
module

public import proofs.«01_k».proof.Defs
public import proofs.«01_k».proof.Proof.Ranges
public import proofs.«01_k».proof.Proof.Reference
public import proofs.«01_k».proof.Proof.KernelIdeal.Results

@[expose] public section

noncomputable section

namespace Cert.Algebraic

open Idealize.ShloMosaic Idealize.SL.Sem Idealize.ShloMosaic.ValueIdx
open Cert.KernelIdeal.Hand (ids tgt tok pos headW bias)

/-- An index of the logits. -/
theorem exists_entry (i : (⟨3, ![1, 2048, 100000]⟩ : Shape).Idx) : ∃ (t : Fin 2048) (v : Fin 100000), i = ix3 0 t v :=
  ⟨i 1, i 2, funext fun a => match a with
    | ⟨0, _⟩ => Fin.ext (Nat.lt_one_iff.1 (i 0).isLt)
    | ⟨1, _⟩ => rfl
    | ⟨2, _⟩ => rfl⟩

section Reference

variable (a0 a1 : IVec ReferenceIdeal.S1x2048 32) (a2 : FVec Ideal ReferenceIdeal.S100000x128 .f32) (a3 : FVec Ideal ReferenceIdeal.S2048x128 .f32)
  (a4 : FVec Ideal ReferenceIdeal.S128x100000 .f32) (a5 : FVec Ideal ReferenceIdeal.S100000 .f32)
  (h0 : ∀ i, (a0 i).toNat < 100000) (h1 : ∀ i, (a1 i).toNat < 100000) (hb : ∀ i, a5 i = 0)

include h0 hb in
/-- The reference's logits, the bias being zero. -/
theorem reference0 (t : Fin 2048) (v : Fin 100000) : ReferenceIdeal.Hand.logits a0 a2 a3 a4 a5 (ix3 0 t v) = Spec.logit a0 a2 a3 a4 t v := by
  rw [ReferenceIdeal.Hand.logits_apply _ _ _ _ _ h0, hb, add_zero]

include h0 h1 hb in
/-- The reference's mean loss. -/
theorem reference1 (j : ReferenceIdeal.S_.Idx) :
    ReferenceIdeal.Hand.meanLoss (shapeCast _ (ReferenceIdeal.Hand.logits a0 a2 a3 a4 a5) ReferenceIdeal.Gen.shapeCasts_S1x2048x100000_S2048x100000) a1 j
      = Spec.loss a1 (Spec.logit a0 a2 a3 a4) := by
  rw [ReferenceIdeal.Hand.meanLoss_apply _ _ h1]
  refine congrArg (Spec.loss a1) (funext fun t => funext fun v => ?_)
  rw [ReferenceIdeal.Hand.flat_apply, reference0 a0 a2 a3 a4 a5 h0 hb]

end Reference

/-- The kernel's results are the reference's. -/
theorem agree : Cert.algebraic_KernelIdeal_ReferenceIdeal_pre_in_vocab_no_bias := by
  intro m g m' g' hp hm
  have h0 : ∀ d i, (ids m d i).toNat < 100000 := fun d i => (Ranges.of_in_vocab_no_bias _ _ _ _ _ _ (hp d) i).1
  have h1 : ∀ d i, (tgt m d i).toNat < 100000 := fun d i => (Ranges.of_in_vocab_no_bias _ _ _ _ _ _ (hp d) i).2
  have hb : ∀ d i, bias m d i = 0 := fun d i => Ranges.bias_zero _ _ _ _ _ _ (hp d) i
  have e : ∀ c, ReferenceIdeal.Hand.logitsAt m' c = ReferenceIdeal.Hand.logits (ids m c) (tok m c) (pos m c) (headW m c) (bias m c) := fun c => by
    obtain ⟨e0, -, e2, e3, e4, e5⟩ := hm c
    unfold ReferenceIdeal.Hand.logitsAt
    rw [e0, e2, e3, e4, e5]; rfl
  refine ⟨fun c => KernelIdeal.Hand.V5 m c (Proc.devRef .tc KernelIdeal.main_v7), fun c => KernelIdeal.Hand.V5 m c (Proc.devRef .tc KernelIdeal.main_v8), ?_, ?_⟩
  · exact (KernelIdeal.Hand.run_reads m g (KernelIdeal.Hand.inRange m fun d i => ⟨h0 d i, h1 d i⟩)).mono
      fun _ h c => ⟨(h.1 c).1.1, (h.1 c).1.2, (h.1 c).2⟩
  · refine (ReferenceIdeal.Hand.run m' g').mono fun _ h c => ⟨(h c).1.trans ?_, (h c).2.1.trans ?_, (h c).2.2⟩
    · rw [e c]
      funext i
      obtain ⟨t, v, rfl⟩ := exists_entry i
      exact (reference0 _ _ _ _ _ (h0 c) (hb c) t v).trans (KernelIdeal.Hand.result0 m c (h0 c) t v).symm
    · rw [e c, (hm c).2.1]
      funext j
      exact (reference1 _ _ _ _ _ _ (h0 c) (h1 c) (hb c) j).trans (KernelIdeal.Hand.result1 m c (h0 c) (h1 c) (hb c) j).symm

end Cert.Algebraic

end
-- ==== Proof.lean ====
/- The claims, put together: the frames, that the ideal kernel is the kernel's own text read over the extended reals, and
   that it computes the reference's function. -/
module

public import proofs.«01_k».proof.Defs
public import proofs.«01_k».proof.Proof.Frames
public import proofs.«01_k».proof.Proof.Algebraic

@[expose] public section

noncomputable section

namespace Cert.Proof

/-- Everything stated. -/
theorem claim : Cert.Claim :=
  ⟨Cert.Kernel.Gen.facts, Cert.KernelIdeal.Gen.facts, Cert.ReferenceIdeal.Gen.facts, Cert.Pre_in_vocab.Gen.facts, Cert.Pre_in_vocab_no_bias.Gen.facts,
    Frames.kernel, Frames.kernelIdeal, Frames.kernelIdeal_no_bias, Frames.referenceIdeal, Frames.referenceIdeal_no_bias, trivial, Algebraic.agree⟩

end Cert.Proof

end
